-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v361) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x128 : Shape := ⟨2, ![2048, 128]⟩
abbrev S3x2048x2048 : Shape := ⟨3, ![3, 2048, 2048]⟩
abbrev S3x128x8 : Shape := ⟨3, ![3, 128, 8]⟩
abbrev S1x8 : Shape := ⟨2, ![1, 8]⟩
abbrev S3x8x8 : Shape := ⟨3, ![3, 8, 8]⟩
abbrev S1x16x1 : Shape := ⟨3, ![1, 16, 1]⟩
abbrev S16x1x1 : Shape := ⟨3, ![16, 1, 1]⟩
abbrev S1x2x7 : Shape := ⟨3, ![1, 2, 7]⟩
abbrev S2x16x1 : Shape := ⟨3, ![2, 16, 1]⟩
abbrev S2 : Shape := ⟨1, ![2]⟩
abbrev S2048x16 : Shape := ⟨2, ![2048, 16]⟩
abbrev S1x128x8 : Shape := ⟨3, ![1, 128, 8]⟩
abbrev S1x2048x2048 : Shape := ⟨3, ![1, 2048, 2048]⟩
abbrev S2048x8 : Shape := ⟨2, ![2048, 8]⟩
abbrev S2048x2048 : Shape := ⟨2, ![2048, 2048]⟩
abbrev S128x8 : Shape := ⟨2, ![128, 8]⟩
abbrev S1x8x8 : Shape := ⟨3, ![1, 8, 8]⟩
abbrev S8x8 : Shape := ⟨2, ![8, 8]⟩
abbrev S1x16 : Shape := ⟨2, ![1, 16]⟩
abbrev S16 : Shape := ⟨1, ![16]⟩
abbrev S2x7 : Shape := ⟨2, ![2, 7]⟩
abbrev S2x16 : Shape := ⟨2, ![2, 16]⟩
abbrev S16x2 : Shape := ⟨2, ![16, 2]⟩
abbrev S1x2 : Shape := ⟨2, ![1, 2]⟩
abbrev S2048x2 : Shape := ⟨2, ![2048, 2]⟩
abbrev S1x1x16 : Shape := ⟨3, ![1, 1, 16]⟩
abbrev S1 : Shape := ⟨1, ![1]⟩
abbrev S1x1x1 : Shape := ⟨3, ![1, 1, 1]⟩
abbrev S2048 : Shape := ⟨1, ![2048]⟩
abbrev S2048x1 : Shape := ⟨2, ![2048, 1]⟩
abbrev S3x1 : Shape := ⟨2, ![3, 1]⟩
abbrev S2054x1 : Shape := ⟨2, ![2054, 1]⟩
abbrev S1x1 : Shape := ⟨2, ![1, 1]⟩
abbrev S2x2048 : Shape := ⟨2, ![2, 2048]⟩
abbrev S1x2x2048 : Shape := ⟨3, ![1, 2, 2048]⟩

abbrev nBuf : Space → Nat
  | .hbm => 34
  | .vmem => 42
  | .smem => 1
  | _ => 0

abbrev bufTy : (tb : Table) → Fin (tcTables nBuf tb) → BufTy
  | .hbm, ⟨0, _⟩ => ⟨S2048x128, .f32⟩
  | .hbm, ⟨1, _⟩ => ⟨S2048x128, .f32⟩
  | .hbm, ⟨2, _⟩ => ⟨S3x2048x2048, .f32⟩
  | .hbm, ⟨3, _⟩ => ⟨S3x2048x2048, .f32⟩
  | .hbm, ⟨4, _⟩ => ⟨S3x128x8, .f32⟩
  | .hbm, ⟨5, _⟩ => ⟨S1x8, .f32⟩
  | .hbm, ⟨6, _⟩ => ⟨S3x8x8, .f32⟩
  | .hbm, ⟨7, _⟩ => ⟨S1x8, .f32⟩
  | .hbm, ⟨8, _⟩ => ⟨S3x8x8, .f32⟩
  | .hbm, ⟨9, _⟩ => ⟨S1x8, .f32⟩
  | .hbm, ⟨10, _⟩ => ⟨S1x16x1, .f32⟩
  | .hbm, ⟨11, _⟩ => ⟨S16x1x1, .f32⟩
  | .hbm, ⟨12, _⟩ => ⟨S1x2x7, .f32⟩
  | .hbm, ⟨13, _⟩ => ⟨S2x16x1, .f32⟩
  | .hbm, ⟨14, _⟩ => ⟨S2, .f32⟩
  | .hbm, ⟨15, _⟩ => ⟨S3x2048x2048, .bf16⟩
  | .hbm, ⟨16, _⟩ => ⟨S3x2048x2048, .bf16⟩
  | .hbm, ⟨17, _⟩ => ⟨S2048x16, .f32⟩
  | .hbm, ⟨18, _⟩ => ⟨S2048x8, .f32⟩
  | .hbm, ⟨19, _⟩ => ⟨S2048x8, .f32⟩
  | .hbm, ⟨20, _⟩ => ⟨S2048x16, .f32⟩
  | .hbm, ⟨21, _⟩ => ⟨S2048x8, .f32⟩
  | .hbm, ⟨22, _⟩ => ⟨S2048x8, .f32⟩
  | .hbm, ⟨23, _⟩ => ⟨S2048x16, .f32⟩
  | .hbm, ⟨24, _⟩ => ⟨S1x16, .f32⟩
  | .hbm, ⟨25, _⟩ => ⟨S16, .f32⟩
  | .hbm, ⟨26, _⟩ => ⟨S1x16, .f32⟩
  | .hbm, ⟨27, _⟩ => ⟨S2x7, .f32⟩
  | .hbm, ⟨28, _⟩ => ⟨S2x16, .f32⟩
  | .hbm, ⟨29, _⟩ => ⟨S16x2, .f32⟩
  | .hbm, ⟨30, _⟩ => ⟨S1x2, .f32⟩
  | .hbm, ⟨31, _⟩ => ⟨S2048x2, .f32⟩
  | .hbm, ⟨32, _⟩ => ⟨S2x2048, .f32⟩
  | .hbm, ⟨33, _⟩ => ⟨S1x2x2048, .f32⟩
  | .local _ .vmem, ⟨0, _⟩ => ⟨S2048x128, .f32⟩
  | .local _ .vmem, ⟨1, _⟩ => ⟨S2048x128, .f32⟩
  | .local _ .vmem, ⟨2, _⟩ => ⟨S1x128x8, .f32⟩
  | .local _ .vmem, ⟨3, _⟩ => ⟨S1x128x8, .f32⟩
  | .local _ .vmem, ⟨4, _⟩ => ⟨S1x8, .f32⟩
  | .local _ .vmem, ⟨5, _⟩ => ⟨S1x2048x2048, .bf16⟩
  | .local _ .vmem, ⟨6, _⟩ => ⟨S1x2048x2048, .bf16⟩
  | .local _ .vmem, ⟨7, _⟩ => ⟨S1x2048x2048, .bf16⟩
  | .local _ .vmem, ⟨8, _⟩ => ⟨S1x2048x2048, .bf16⟩
  | .local _ .vmem, ⟨9, _⟩ => ⟨S2048x16, .f32⟩
  | .local _ .vmem, ⟨10, _⟩ => ⟨S2048x8, .f32⟩
  | .local _ .vmem, ⟨11, _⟩ => ⟨S2048x8, .f32⟩
  | .local _ .vmem, ⟨12, _⟩ => ⟨S2048x8, .f32⟩
  | .local _ .vmem, ⟨13, _⟩ => ⟨S2048x8, .f32⟩
  | .local _ .vmem, ⟨14, _⟩ => ⟨S1x8x8, .f32⟩
  | .local _ .vmem, ⟨15, _⟩ => ⟨S1x8x8, .f32⟩
  | .local _ .vmem, ⟨16, _⟩ => ⟨S1x8, .f32⟩
  | .local _ .vmem, ⟨17, _⟩ => ⟨S1x2048x2048, .bf16⟩
  | .local _ .vmem, ⟨18, _⟩ => ⟨S1x2048x2048, .bf16⟩
  | .local _ .vmem, ⟨19, _⟩ => ⟨S1x2048x2048, .bf16⟩
  | .local _ .vmem, ⟨20, _⟩ => ⟨S1x2048x2048, .bf16⟩
  | .local _ .vmem, ⟨21, _⟩ => ⟨S2048x16, .f32⟩
  | .local _ .vmem, ⟨22, _⟩ => ⟨S2048x8, .f32⟩
  | .local _ .vmem, ⟨23, _⟩ => ⟨S2048x8, .f32⟩
  | .local _ .vmem, ⟨24, _⟩ => ⟨S2048x8, .f32⟩
  | .local _ .vmem, ⟨25, _⟩ => ⟨S2048x8, .f32⟩
  | .local _ .vmem, ⟨26, _⟩ => ⟨S1x8x8, .f32⟩
  | .local _ .vmem, ⟨27, _⟩ => ⟨S1x8x8, .f32⟩
  | .local _ .vmem, ⟨28, _⟩ => ⟨S1x8, .f32⟩
  | .local _ .vmem, ⟨29, _⟩ => ⟨S1x2048x2048, .bf16⟩
  | .local _ .vmem, ⟨30, _⟩ => ⟨S1x2048x2048, .bf16⟩
  | .local _ .vmem, ⟨31, _⟩ => ⟨S1x2048x2048, .bf16⟩
  | .local _ .vmem, ⟨32, _⟩ => ⟨S1x2048x2048, .bf16⟩
  | .local _ .vmem, ⟨33, _⟩ => ⟨S2048x16, .f32⟩
  | .local _ .vmem, ⟨34, _⟩ => ⟨S2048x8, .f32⟩
  | .local _ .vmem, ⟨35, _⟩ => ⟨S2048x8, .f32⟩
  | .local _ .vmem, ⟨36, _⟩ => ⟨S2048x16, .f32⟩
  | .local _ .vmem, ⟨37, _⟩ => ⟨S1x16, .f32⟩
  | .local _ .vmem, ⟨38, _⟩ => ⟨S1x16, .f32⟩
  | .local _ .vmem, ⟨39, _⟩ => ⟨S16x2, .f32⟩
  | .local _ .vmem, ⟨40, _⟩ => ⟨S1x2, .f32⟩
  | .local _ .vmem, ⟨41, _⟩ => ⟨S2048x2, .f32⟩
  | .local _ .smem, ⟨0, _⟩ => ⟨S2x7, .f32⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .smem, ⟨0, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_scratch0 : Ref sig .tc := ⟨.vmem, 10, rfl⟩
abbrev cc0_scratch1 : Ref sig .tc := ⟨.vmem, 11, rfl⟩
abbrev cc1_stg0_0 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg4_1 : Ref sig .tc := ⟨.vmem, 18, rfl⟩
abbrev cc1_stg5_0 : Ref sig .tc := ⟨.vmem, 19, rfl⟩
abbrev cc1_stg5_1 : Ref sig .tc := ⟨.vmem, 20, rfl⟩
abbrev cc1_stg6_0 : Ref sig .tc := ⟨.vmem, 21, rfl⟩
abbrev cc1_scratch0 : Ref sig .tc := ⟨.vmem, 22, rfl⟩
abbrev cc1_scratch1 : Ref sig .tc := ⟨.vmem, 23, rfl⟩
abbrev cc2_stg0_0 : Ref sig .tc := ⟨.vmem, 24, rfl⟩
abbrev cc2_stg1_0 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg4_1 : Ref sig .tc := ⟨.vmem, 30, rfl⟩
abbrev cc2_stg5_0 : Ref sig .tc := ⟨.vmem, 31, rfl⟩
abbrev cc2_stg5_1 : Ref sig .tc := ⟨.vmem, 32, rfl⟩
abbrev cc2_stg6_0 : Ref sig .tc := ⟨.vmem, 33, rfl⟩
abbrev cc2_scratch0 : Ref sig .tc := ⟨.vmem, 34, rfl⟩
abbrev cc2_scratch1 : Ref sig .tc := ⟨.vmem, 35, rfl⟩
abbrev cc3_stg0_0 : Ref sig .tc := ⟨.vmem, 36, rfl⟩
abbrev cc3_stg1_0 : Ref sig .tc := ⟨.vmem, 37, rfl⟩
abbrev cc3_stg2_0 : Ref sig .tc := ⟨.vmem, 38, rfl⟩
abbrev cc3_stg4_0 : Ref sig .tc := ⟨.vmem, 39, rfl⟩
abbrev cc3_stg5_0 : Ref sig .tc := ⟨.vmem, 40, rfl⟩
abbrev cc3_stg6_0 : Ref sig .tc := ⟨.vmem, 41, rfl⟩
abbrev cc3_stg3_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc1_sem0_0 : DmaSem sig := 10
abbrev cc1_sem1_0 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem4_1 : DmaSem sig := 16
abbrev cc1_sem5_0 : DmaSem sig := 17
abbrev cc1_sem5_1 : DmaSem sig := 18
abbrev cc1_sem6_0 : DmaSem sig := 19
abbrev cc2_sem0_0 : DmaSem sig := 20
abbrev cc2_sem1_0 : DmaSem sig := 21
abbrev cc2_sem2_0 : DmaSem sig := 22
abbrev cc2_sem2_1 : DmaSem sig := 23
abbrev cc2_sem3_0 : DmaSem sig := 24
abbrev cc2_sem4_0 : DmaSem sig := 25
abbrev cc2_sem4_1 : DmaSem sig := 26
abbrev cc2_sem5_0 : DmaSem sig := 27
abbrev cc2_sem5_1 : DmaSem sig := 28
abbrev cc2_sem6_0 : DmaSem sig := 29
abbrev cc3_sem0_0 : DmaSem sig := 30
abbrev cc3_sem1_0 : DmaSem sig := 31
abbrev cc3_sem2_0 : DmaSem sig := 32
abbrev cc3_sem3_0 : DmaSem sig := 33
abbrev cc3_sem4_0 : DmaSem sig := 34
abbrev cc3_sem5_0 : DmaSem sig := 35
abbrev cc3_sem6_0 : DmaSem sig := 36

abbrev nD : Nat := 1
abbrev τ : Topo := Topo.v7x

variable {F : FTy → Type} [FloatOps F]

abbrev grid0 : Pipeline.Grid := ⟨1, ![3], ![false]⟩

def k0_cond3 (i : grid0.Coords) : BitVec 1 :=
  let arg0 : BitVec 32 := BitVec.ofNat 32 (i 0).val
  let c2_i32 : BitVec 32 := 2#32
  let v31 : BitVec 1 := Scalar.cmpi .eq arg0 c2_i32
  let v32 : BitVec 32 := Scalar.extui v31
  let c0_i32_22 : BitVec 32 := 0#32
  let v33 : BitVec 1 := Scalar.cmpi .ne v32 c0_i32_22
  v33

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x128x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x2048x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2048x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2048x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![3], ![false]⟩

def k1_cond3 (i : grid1.Coords) : BitVec 1 :=
  let arg0 : BitVec 32 := BitVec.ofNat 32 (i 0).val
  let c2_i32 : BitVec 32 := 2#32
  let v33 : BitVec 1 := Scalar.cmpi .eq arg0 c2_i32
  let v34 : BitVec 32 := Scalar.extui v33
  let c0_i32_22 : BitVec 32 := 0#32
  let v35 : BitVec 1 := Scalar.cmpi .ne v34 c0_i32_22
  v35

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S2048x8 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S2048x8 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1x8x8 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x8 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1x2048x2048 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x2048x2048 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S2048x16 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev grid2 : Pipeline.Grid := ⟨1, ![3], ![false]⟩

def k2_cond3 (i : grid2.Coords) : BitVec 1 :=
  let arg0 : BitVec 32 := BitVec.ofNat 32 (i 0).val
  let c2_i32 : BitVec 32 := 2#32
  let v33 : BitVec 1 := Scalar.cmpi .eq arg0 c2_i32
  let v34 : BitVec 32 := Scalar.extui v33
  let c0_i32_22 : BitVec 32 := 0#32
  let v35 : BitVec 1 := Scalar.cmpi .ne v34 c0_i32_22
  v35

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S2048x8 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S2048x8 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1x8x8 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x8 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S1x2048x2048 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1x2048x2048 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S2048x16 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev grid3 : Pipeline.Grid := .none

abbrev stage3_0 : Fin 1 → Memref sig .tc .vmem S2048x16 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))

abbrev stage3_1 : Fin 1 → Memref sig .tc .vmem S1x16 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))

abbrev stage3_2 : Fin 1 → Memref sig .tc .vmem S1x16 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))

abbrev stage3_3 : Fin 1 → Memref sig .tc .smem S2x7 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))

abbrev stage3_4 : Fin 1 → Memref sig .tc .vmem S16x2 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))

abbrev stage3_5 : Fin 1 → Memref sig .tc .vmem S1x2 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))

abbrev stage3_6 : Fin 1 → Memref sig .tc .vmem S2048x2 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
-- ==== ReferenceIdeal.lean ====
abbrev S2048x128 : Shape := ⟨2, ![2048, 128]⟩
abbrev S3x2048x2048 : Shape := ⟨3, ![3, 2048, 2048]⟩
abbrev S3x128x8 : Shape := ⟨3, ![3, 128, 8]⟩
abbrev S1x8 : Shape := ⟨2, ![1, 8]⟩
abbrev S3x8x8 : Shape := ⟨3, ![3, 8, 8]⟩
abbrev S1x16x1 : Shape := ⟨3, ![1, 16, 1]⟩
abbrev S16x1x1 : Shape := ⟨3, ![16, 1, 1]⟩
abbrev S1x2x7 : Shape := ⟨3, ![1, 2, 7]⟩
abbrev S2x16x1 : Shape := ⟨3, ![2, 16, 1]⟩
abbrev S2 : Shape := ⟨1, ![2]⟩
abbrev S1x2048x2048 : Shape := ⟨3, ![1, 2048, 2048]⟩
abbrev S2048x2048 : Shape := ⟨2, ![2048, 2048]⟩
abbrev S1x128x8 : Shape := ⟨3, ![1, 128, 8]⟩
abbrev S128x8 : Shape := ⟨2, ![128, 8]⟩
abbrev S2048x8 : Shape := ⟨2, ![2048, 8]⟩
abbrev S_ : Shape := ⟨0, ![]⟩
abbrev S1x8x8 : Shape := ⟨3, ![1, 8, 8]⟩
abbrev S8x8 : Shape := ⟨2, ![8, 8]⟩
abbrev S2048x16 : Shape := ⟨2, ![2048, 16]⟩
abbrev S1x2048x16 : Shape := ⟨3, ![1, 2048, 16]⟩
abbrev S1x16x2048 : Shape := ⟨3, ![1, 16, 2048]⟩
abbrev S1x16 : Shape := ⟨2, ![1, 16]⟩
abbrev S1x1x1 : Shape := ⟨3, ![1, 1, 1]⟩
abbrev S16x1 : Shape := ⟨2, ![16, 1]⟩
abbrev S1x1x16 : Shape := ⟨3, ![1, 1, 16]⟩
abbrev S1x2048 : Shape := ⟨2, ![1, 2048]⟩
abbrev S1x1x2048 : Shape := ⟨3, ![1, 1, 2048]⟩
abbrev S1x2x2048 : Shape := ⟨3, ![1, 2, 2048]⟩
abbrev S1x2x2054 : Shape := ⟨3, ![1, 2, 2054]⟩
abbrev S1x2x1 : Shape := ⟨3, ![1, 2, 1]⟩
abbrev S1x2 : Shape := ⟨2, ![1, 2]⟩
abbrev S1x2048x1 : Shape := ⟨3, ![1, 2048, 1]⟩
abbrev S2x16 : Shape := ⟨2, ![2, 16]⟩
abbrev S1x2048x2 : Shape := ⟨3, ![1, 2048, 2]⟩

abbrev nBuf : Space → Nat
  | .hbm => 413
  | .vmem => 0
  | .smem => 0
  | _ => 0

abbrev hbmTy0_0 (i : Nat) : BufTy := match i % 128 with
  | 0 => ⟨S2048x128, .f32⟩
  | 1 => ⟨S2048x128, .f32⟩
  | 2 => ⟨S3x2048x2048, .f32⟩
  | 3 => ⟨S3x2048x2048, .f32⟩
  | 4 => ⟨S3x128x8, .f32⟩
  | 5 => ⟨S1x8, .f32⟩
  | 6 => ⟨S3x8x8, .f32⟩
  | 7 => ⟨S1x8, .f32⟩
  | 8 => ⟨S3x8x8, .f32⟩
  | 9 => ⟨S1x8, .f32⟩
  | 10 => ⟨S1x16x1, .f32⟩
  | 11 => ⟨S16x1x1, .f32⟩
  | 12 => ⟨S1x2x7, .f32⟩
  | 13 => ⟨S2x16x1, .f32⟩
  | 14 => ⟨S2, .f32⟩
  | 15 => ⟨S1x2048x2048, .f32⟩
  | 16 => ⟨S2048x2048, .f32⟩
  | 17 => ⟨S2048x128, .f32⟩
  | 18 => ⟨S1x128x8, .f32⟩
  | 19 => ⟨S128x8, .f32⟩
  | 20 => ⟨S2048x8, .f32⟩
  | 21 => ⟨S1x2048x2048, .f32⟩
  | 22 => ⟨S2048x2048, .f32⟩
  | 23 => ⟨S2048x128, .f32⟩
  | 24 => ⟨S1x128x8, .f32⟩
  | 25 => ⟨S128x8, .f32⟩
  | 26 => ⟨S2048x8, .f32⟩
  | 27 => ⟨S2048x8, .f32⟩
  | 28 => ⟨S1x2048x2048, .f32⟩
  | 29 => ⟨S2048x2048, .f32⟩
  | 30 => ⟨S2048x128, .f32⟩
  | 31 => ⟨S1x128x8, .f32⟩
  | 32 => ⟨S128x8, .f32⟩
  | 33 => ⟨S2048x8, .f32⟩
  | 34 => ⟨S1x2048x2048, .f32⟩
  | 35 => ⟨S2048x2048, .f32⟩
  | 36 => ⟨S2048x128, .f32⟩
  | 37 => ⟨S1x128x8, .f32⟩
  | 38 => ⟨S128x8, .f32⟩
  | 39 => ⟨S2048x8, .f32⟩
  | 40 => ⟨S2048x8, .f32⟩
  | 41 => ⟨S1x2048x2048, .f32⟩
  | 42 => ⟨S2048x2048, .f32⟩
  | 43 => ⟨S2048x128, .f32⟩
  | 44 => ⟨S1x128x8, .f32⟩
  | 45 => ⟨S128x8, .f32⟩
  | 46 => ⟨S2048x8, .f32⟩
  | 47 => ⟨S1x2048x2048, .f32⟩
  | 48 => ⟨S2048x2048, .f32⟩
  | 49 => ⟨S2048x128, .f32⟩
  | 50 => ⟨S1x128x8, .f32⟩
  | 51 => ⟨S128x8, .f32⟩
  | 52 => ⟨S2048x8, .f32⟩
  | 53 => ⟨S2048x8, .f32⟩
  | 54 => ⟨S1x2048x2048, .f32⟩
  | 55 => ⟨S2048x2048, .f32⟩
  | 56 => ⟨S2048x128, .f32⟩
  | 57 => ⟨S1x128x8, .f32⟩
  | 58 => ⟨S128x8, .f32⟩
  | 59 => ⟨S2048x8, .f32⟩
  | 60 => ⟨S1x2048x2048, .f32⟩
  | 61 => ⟨S2048x2048, .f32⟩
  | 62 => ⟨S2048x128, .f32⟩
  | 63 => ⟨S1x128x8, .f32⟩
  | 64 => ⟨S128x8, .f32⟩
  | 65 => ⟨S2048x8, .f32⟩
  | 66 => ⟨S2048x8, .f32⟩
  | 67 => ⟨S2048x8, .f32⟩
  | 68 => ⟨S2048x8, .f32⟩
  | 69 => ⟨S1x2048x2048, .f32⟩
  | 70 => ⟨S2048x2048, .f32⟩
  | 71 => ⟨S2048x128, .f32⟩
  | 72 => ⟨S1x128x8, .f32⟩
  | 73 => ⟨S128x8, .f32⟩
  | 74 => ⟨S2048x8, .f32⟩
  | 75 => ⟨S1x2048x2048, .f32⟩
  | 76 => ⟨S2048x2048, .f32⟩
  | 77 => ⟨S2048x128, .f32⟩
  | 78 => ⟨S1x128x8, .f32⟩
  | 79 => ⟨S128x8, .f32⟩
  | 80 => ⟨S2048x8, .f32⟩
  | 81 => ⟨S2048x8, .f32⟩
  | 82 => ⟨S1x2048x2048, .f32⟩
  | 83 => ⟨S2048x2048, .f32⟩
  | 84 => ⟨S2048x128, .f32⟩
  | 85 => ⟨S1x128x8, .f32⟩
  | 86 => ⟨S128x8, .f32⟩
  | 87 => ⟨S2048x8, .f32⟩
  | 88 => ⟨S1x2048x2048, .f32⟩
  | 89 => ⟨S2048x2048, .f32⟩
  | 90 => ⟨S2048x128, .f32⟩
  | 91 => ⟨S1x128x8, .f32⟩
  | 92 => ⟨S128x8, .f32⟩
  | 93 => ⟨S2048x8, .f32⟩
  | 94 => ⟨S2048x8, .f32⟩
  | 95 => ⟨S2048x8, .f32⟩
  | 96 => ⟨S2048x8, .f32⟩
  | 97 => ⟨S2048x8, .f32⟩
  | 98 => ⟨S2048x8, .f32⟩
  | 99 => ⟨S2048x8, .f32⟩
  | 100 => ⟨S2048x8, .f32⟩
  | 101 => ⟨S_, .f32⟩
  | 102 => ⟨S2048x8, .f32⟩
  | 103 => ⟨S2048x8, .i1⟩
  | 104 => ⟨S2048x8, .f32⟩
  | 105 => ⟨S2048x8, .f32⟩
  | 106 => ⟨S2048x8, .f32⟩
  | 107 => ⟨S1x2048x2048, .f32⟩
  | 108 => ⟨S2048x2048, .f32⟩
  | 109 => ⟨S2048x8, .f32⟩
  | 110 => ⟨S1x8x8, .f32⟩
  | 111 => ⟨S8x8, .f32⟩
  | 112 => ⟨S2048x8, .f32⟩
  | 113 => ⟨S1x2048x2048, .f32⟩
  | 114 => ⟨S2048x2048, .f32⟩
  | 115 => ⟨S2048x8, .f32⟩
  | 116 => ⟨S1x8x8, .f32⟩
  | 117 => ⟨S8x8, .f32⟩
  | 118 => ⟨S2048x8, .f32⟩
  | 119 => ⟨S2048x8, .f32⟩
  | 120 => ⟨S1x2048x2048, .f32⟩
  | 121 => ⟨S2048x2048, .f32⟩
  | 122 => ⟨S2048x8, .f32⟩
  | 123 => ⟨S1x8x8, .f32⟩
  | 124 => ⟨S8x8, .f32⟩
  | 125 => ⟨S2048x8, .f32⟩
  | 126 => ⟨S1x2048x2048, .f32⟩
  | 127 => ⟨S2048x2048, .f32⟩
  | _ => ⟨S2048x128, .f32⟩

abbrev hbmTy0_1 (i : Nat) : BufTy := match i % 128 with
  | 0 => ⟨S2048x8, .f32⟩
  | 1 => ⟨S1x8x8, .f32⟩
  | 2 => ⟨S8x8, .f32⟩
  | 3 => ⟨S2048x8, .f32⟩
  | 4 => ⟨S2048x8, .f32⟩
  | 5 => ⟨S1x2048x2048, .f32⟩
  | 6 => ⟨S2048x2048, .f32⟩
  | 7 => ⟨S2048x8, .f32⟩
  | 8 => ⟨S1x8x8, .f32⟩
  | 9 => ⟨S8x8, .f32⟩
  | 10 => ⟨S2048x8, .f32⟩
  | 11 => ⟨S1x2048x2048, .f32⟩
  | 12 => ⟨S2048x2048, .f32⟩
  | 13 => ⟨S2048x8, .f32⟩
  | 14 => ⟨S1x8x8, .f32⟩
  | 15 => ⟨S8x8, .f32⟩
  | 16 => ⟨S2048x8, .f32⟩
  | 17 => ⟨S2048x8, .f32⟩
  | 18 => ⟨S1x2048x2048, .f32⟩
  | 19 => ⟨S2048x2048, .f32⟩
  | 20 => ⟨S2048x8, .f32⟩
  | 21 => ⟨S1x8x8, .f32⟩
  | 22 => ⟨S8x8, .f32⟩
  | 23 => ⟨S2048x8, .f32⟩
  | 24 => ⟨S1x2048x2048, .f32⟩
  | 25 => ⟨S2048x2048, .f32⟩
  | 26 => ⟨S2048x8, .f32⟩
  | 27 => ⟨S1x8x8, .f32⟩
  | 28 => ⟨S8x8, .f32⟩
  | 29 => ⟨S2048x8, .f32⟩
  | 30 => ⟨S2048x8, .f32⟩
  | 31 => ⟨S2048x8, .f32⟩
  | 32 => ⟨S2048x8, .f32⟩
  | 33 => ⟨S1x2048x2048, .f32⟩
  | 34 => ⟨S2048x2048, .f32⟩
  | 35 => ⟨S2048x8, .f32⟩
  | 36 => ⟨S1x8x8, .f32⟩
  | 37 => ⟨S8x8, .f32⟩
  | 38 => ⟨S2048x8, .f32⟩
  | 39 => ⟨S1x2048x2048, .f32⟩
  | 40 => ⟨S2048x2048, .f32⟩
  | 41 => ⟨S2048x8, .f32⟩
  | 42 => ⟨S1x8x8, .f32⟩
  | 43 => ⟨S8x8, .f32⟩
  | 44 => ⟨S2048x8, .f32⟩
  | 45 => ⟨S2048x8, .f32⟩
  | 46 => ⟨S1x2048x2048, .f32⟩
  | 47 => ⟨S2048x2048, .f32⟩
  | 48 => ⟨S2048x8, .f32⟩
  | 49 => ⟨S1x8x8, .f32⟩
  | 50 => ⟨S8x8, .f32⟩
  | 51 => ⟨S2048x8, .f32⟩
  | 52 => ⟨S1x2048x2048, .f32⟩
  | 53 => ⟨S2048x2048, .f32⟩
  | 54 => ⟨S2048x8, .f32⟩
  | 55 => ⟨S1x8x8, .f32⟩
  | 56 => ⟨S8x8, .f32⟩
  | 57 => ⟨S2048x8, .f32⟩
  | 58 => ⟨S2048x8, .f32⟩
  | 59 => ⟨S2048x8, .f32⟩
  | 60 => ⟨S2048x8, .f32⟩
  | 61 => ⟨S2048x8, .f32⟩
  | 62 => ⟨S2048x8, .f32⟩
  | 63 => ⟨S2048x8, .f32⟩
  | 64 => ⟨S2048x8, .f32⟩
  | 65 => ⟨S_, .f32⟩
  | 66 => ⟨S2048x8, .f32⟩
  | 67 => ⟨S2048x8, .i1⟩
  | 68 => ⟨S2048x8, .f32⟩
  | 69 => ⟨S2048x8, .f32⟩
  | 70 => ⟨S2048x8, .f32⟩
  | 71 => ⟨S1x2048x2048, .f32⟩
  | 72 => ⟨S2048x2048, .f32⟩
  | 73 => ⟨S2048x8, .f32⟩
  | 74 => ⟨S1x8x8, .f32⟩
  | 75 => ⟨S8x8, .f32⟩
  | 76 => ⟨S2048x8, .f32⟩
  | 77 => ⟨S1x2048x2048, .f32⟩
  | 78 => ⟨S2048x2048, .f32⟩
  | 79 => ⟨S2048x8, .f32⟩
  | 80 => ⟨S1x8x8, .f32⟩
  | 81 => ⟨S8x8, .f32⟩
  | 82 => ⟨S2048x8, .f32⟩
  | 83 => ⟨S2048x8, .f32⟩
  | 84 => ⟨S1x2048x2048, .f32⟩
  | 85 => ⟨S2048x2048, .f32⟩
  | 86 => ⟨S2048x8, .f32⟩
  | 87 => ⟨S1x8x8, .f32⟩
  | 88 => ⟨S8x8, .f32⟩
  | 89 => ⟨S2048x8, .f32⟩
  | 90 => ⟨S1x2048x2048, .f32⟩
  | 91 => ⟨S2048x2048, .f32⟩
  | 92 => ⟨S2048x8, .f32⟩
  | 93 => ⟨S1x8x8, .f32⟩
  | 94 => ⟨S8x8, .f32⟩
  | 95 => ⟨S2048x8, .f32⟩
  | 96 => ⟨S2048x8, .f32⟩
  | 97 => ⟨S1x2048x2048, .f32⟩
  | 98 => ⟨S2048x2048, .f32⟩
  | 99 => ⟨S2048x8, .f32⟩
  | 100 => ⟨S1x8x8, .f32⟩
  | 101 => ⟨S8x8, .f32⟩
  | 102 => ⟨S2048x8, .f32⟩
  | 103 => ⟨S1x2048x2048, .f32⟩
  | 104 => ⟨S2048x2048, .f32⟩
  | 105 => ⟨S2048x8, .f32⟩
  | 106 => ⟨S1x8x8, .f32⟩
  | 107 => ⟨S8x8, .f32⟩
  | 108 => ⟨S2048x8, .f32⟩
  | 109 => ⟨S2048x8, .f32⟩
  | 110 => ⟨S1x2048x2048, .f32⟩
  | 111 => ⟨S2048x2048, .f32⟩
  | 112 => ⟨S2048x8, .f32⟩
  | 113 => ⟨S1x8x8, .f32⟩
  | 114 => ⟨S8x8, .f32⟩
  | 115 => ⟨S2048x8, .f32⟩
  | 116 => ⟨S1x2048x2048, .f32⟩
  | 117 => ⟨S2048x2048, .f32⟩
  | 118 => ⟨S2048x8, .f32⟩
  | 119 => ⟨S1x8x8, .f32⟩
  | 120 => ⟨S8x8, .f32⟩
  | 121 => ⟨S2048x8, .f32⟩
  | 122 => ⟨S2048x8, .f32⟩
  | 123 => ⟨S2048x8, .f32⟩
  | 124 => ⟨S2048x8, .f32⟩
  | 125 => ⟨S1x2048x2048, .f32⟩
  | 126 => ⟨S2048x2048, .f32⟩
  | 127 => ⟨S2048x8, .f32⟩
  | _ => ⟨S2048x128, .f32⟩

abbrev hbmTy0_2 (i : Nat) : BufTy := match i % 128 with
  | 0 => ⟨S1x8x8, .f32⟩
  | 1 => ⟨S8x8, .f32⟩
  | 2 => ⟨S2048x8, .f32⟩
  | 3 => ⟨S1x2048x2048, .f32⟩
  | 4 => ⟨S2048x2048, .f32⟩
  | 5 => ⟨S2048x8, .f32⟩
  | 6 => ⟨S1x8x8, .f32⟩
  | 7 => ⟨S8x8, .f32⟩
  | 8 => ⟨S2048x8, .f32⟩
  | 9 => ⟨S2048x8, .f32⟩
  | 10 => ⟨S1x2048x2048, .f32⟩
  | 11 => ⟨S2048x2048, .f32⟩
  | 12 => ⟨S2048x8, .f32⟩
  | 13 => ⟨S1x8x8, .f32⟩
  | 14 => ⟨S8x8, .f32⟩
  | 15 => ⟨S2048x8, .f32⟩
  | 16 => ⟨S1x2048x2048, .f32⟩
  | 17 => ⟨S2048x2048, .f32⟩
  | 18 => ⟨S2048x8, .f32⟩
  | 19 => ⟨S1x8x8, .f32⟩
  | 20 => ⟨S8x8, .f32⟩
  | 21 => ⟨S2048x8, .f32⟩
  | 22 => ⟨S2048x8, .f32⟩
  | 23 => ⟨S2048x8, .f32⟩
  | 24 => ⟨S2048x8, .f32⟩
  | 25 => ⟨S2048x8, .f32⟩
  | 26 => ⟨S2048x8, .f32⟩
  | 27 => ⟨S2048x8, .f32⟩
  | 28 => ⟨S2048x8, .f32⟩
  | 29 => ⟨S_, .f32⟩
  | 30 => ⟨S2048x8, .f32⟩
  | 31 => ⟨S2048x8, .i1⟩
  | 32 => ⟨S2048x8, .f32⟩
  | 33 => ⟨S2048x8, .f32⟩
  | 34 => ⟨S2048x8, .f32⟩
  | 35 => ⟨S2048x16, .f32⟩
  | 36 => ⟨S1x2048x16, .f32⟩
  | 37 => ⟨S1x16x2048, .f32⟩
  | 38 => ⟨S_, .f32⟩
  | 39 => ⟨S1x16, .f32⟩
  | 40 => ⟨S1x16x1, .f32⟩
  | 41 => ⟨S_, .f32⟩
  | 42 => ⟨S1x16x1, .f32⟩
  | 43 => ⟨S1x16x1, .f32⟩
  | 44 => ⟨S_, .i32⟩
  | 45 => ⟨S_, .f32⟩
  | 46 => ⟨S1x16x1, .f32⟩
  | 47 => ⟨S1x16, .f32⟩
  | 48 => ⟨S1x1x1, .f32⟩
  | 49 => ⟨S1x1x1, .f32⟩
  | 50 => ⟨S_, .f32⟩
  | 51 => ⟨S1x1x1, .f32⟩
  | 52 => ⟨S1x1x1, .f32⟩
  | 53 => ⟨S_, .i32⟩
  | 54 => ⟨S_, .f32⟩
  | 55 => ⟨S1x1x1, .f32⟩
  | 56 => ⟨S16x1, .f32⟩
  | 57 => ⟨S1x1x16, .f32⟩
  | 58 => ⟨S1x16x1, .f32⟩
  | 59 => ⟨S1x16x1, .f32⟩
  | 60 => ⟨S1x16x1, .f32⟩
  | 61 => ⟨S_, .f32⟩
  | 62 => ⟨S1x16x1, .f32⟩
  | 63 => ⟨S1x16x1, .f32⟩
  | 64 => ⟨S_, .f32⟩
  | 65 => ⟨S1x16x1, .f32⟩
  | 66 => ⟨S1x16x1, .f32⟩
  | 67 => ⟨S1x16x2048, .f32⟩
  | 68 => ⟨S1x16x2048, .f32⟩
  | 69 => ⟨S_, .f32⟩
  | 70 => ⟨S1x2048, .f32⟩
  | 71 => ⟨S1x1x2048, .f32⟩
  | 72 => ⟨S_, .f32⟩
  | 73 => ⟨S1x1x2048, .f32⟩
  | 74 => ⟨S1x1x2048, .f32⟩
  | 75 => ⟨S_, .f32⟩
  | 76 => ⟨S1x2048, .f32⟩
  | 77 => ⟨S1x1x2048, .f32⟩
  | 78 => ⟨S1x2x2048, .f32⟩
  | 79 => ⟨S_, .i32⟩
  | 80 => ⟨S_, .f32⟩
  | 81 => ⟨S1x2x2054, .f32⟩
  | 82 => ⟨S1x2x1, .f32⟩
  | 83 => ⟨S1x2, .f32⟩
  | 84 => ⟨S1x2x2048, .f32⟩
  | 85 => ⟨S1x2048x1, .f32⟩
  | 86 => ⟨S1x1x2048, .f32⟩
  | 87 => ⟨S1x2x1, .f32⟩
  | 88 => ⟨S1x2, .f32⟩
  | 89 => ⟨S1x2x2048, .f32⟩
  | 90 => ⟨S1x2048x1, .f32⟩
  | 91 => ⟨S1x1x2048, .f32⟩
  | 92 => ⟨S1x1x2048, .f32⟩
  | 93 => ⟨S1x2x1, .f32⟩
  | 94 => ⟨S1x2, .f32⟩
  | 95 => ⟨S1x2x2048, .f32⟩
  | 96 => ⟨S1x2048x1, .f32⟩
  | 97 => ⟨S1x1x2048, .f32⟩
  | 98 => ⟨S1x1x2048, .f32⟩
  | 99 => ⟨S1x2x1, .f32⟩
  | 100 => ⟨S1x2, .f32⟩
  | 101 => ⟨S1x2x2048, .f32⟩
  | 102 => ⟨S1x2048x1, .f32⟩
  | 103 => ⟨S1x1x2048, .f32⟩
  | 104 => ⟨S1x1x2048, .f32⟩
  | 105 => ⟨S1x2x1, .f32⟩
  | 106 => ⟨S1x2, .f32⟩
  | 107 => ⟨S1x2x2048, .f32⟩
  | 108 => ⟨S1x2048x1, .f32⟩
  | 109 => ⟨S1x1x2048, .f32⟩
  | 110 => ⟨S1x1x2048, .f32⟩
  | 111 => ⟨S1x2x1, .f32⟩
  | 112 => ⟨S1x2, .f32⟩
  | 113 => ⟨S1x2x2048, .f32⟩
  | 114 => ⟨S1x2048x1, .f32⟩
  | 115 => ⟨S1x1x2048, .f32⟩
  | 116 => ⟨S1x1x2048, .f32⟩
  | 117 => ⟨S1x2x1, .f32⟩
  | 118 => ⟨S1x2, .f32⟩
  | 119 => ⟨S1x2x2048, .f32⟩
  | 120 => ⟨S1x2048x1, .f32⟩
  | 121 => ⟨S1x1x2048, .f32⟩
  | 122 => ⟨S1x1x2048, .f32⟩
  | 123 => ⟨S1x1x2048, .f32⟩
  | 124 => ⟨S1x1x2048, .f32⟩
  | 125 => ⟨S_, .f32⟩
  | 126 => ⟨S1x1x2048, .f32⟩
  | 127 => ⟨S1x1x2048, .f32⟩
  | _ => ⟨S2048x128, .f32⟩

abbrev hbmTy0_3 (i : Nat) : BufTy := match i % 128 with
  | 0 => ⟨S_, .f32⟩
  | 1 => ⟨S1x1x2048, .f32⟩
  | 2 => ⟨S1x1x2048, .f32⟩
  | 3 => ⟨S1x16x2048, .f32⟩
  | 4 => ⟨S1x16x2048, .f32⟩
  | 5 => ⟨S_, .i32⟩
  | 6 => ⟨S_, .f32⟩
  | 7 => ⟨S1x16x2048, .f32⟩
  | 8 => ⟨S2x16, .f32⟩
  | 9 => ⟨S1x2048x2, .f32⟩
  | 10 => ⟨S1x2x2048, .f32⟩
  | 11 => ⟨S1x2x1, .f32⟩
  | 12 => ⟨S1x2x2048, .f32⟩
  | 13 => ⟨S1x2x2048, .f32⟩
  | 14 => ⟨S_, .f32⟩
  | 15 => ⟨S1x2048, .f32⟩
  | 16 => ⟨S_, .f32⟩
  | 17 => ⟨S1x2048, .f32⟩
  | 18 => ⟨S1x2048, .f32⟩
  | 19 => ⟨S1x1x2048, .f32⟩
  | 20 => ⟨S1x2x2048, .f32⟩
  | 21 => ⟨S1x2x2048, .f32⟩
  | 22 => ⟨S1x2x2048, .f32⟩
  | 23 => ⟨S_, .f32⟩
  | 24 => ⟨S1x2048, .f32⟩
  | 25 => ⟨S1x1x2048, .f32⟩
  | 26 => ⟨S1x1x2048, .f32⟩
  | 27 => ⟨S1x2x2048, .f32⟩
  | 28 => ⟨S1x2x2048, .f32⟩
  | _ => ⟨S2048x128, .f32⟩

abbrev hbmTy (i : Nat) : BufTy := match i / 128 with
  | 0 => hbmTy0_0 i
  | 1 => hbmTy0_1 i
  | 2 => hbmTy0_2 i
  | 3 => hbmTy0_3 i
  | _ => ⟨S2048x128, .f32⟩

abbrev bufTy : (tb : Table) → Fin (tcTables nBuf tb) → BufTy
  | .hbm, ⟨i, _⟩ => hbmTy i
  | _, _ => ⟨S2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_cst : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_v118 : Ref sig .tc := ⟨.hbm, 134, rfl⟩
abbrev main_v119 : Ref sig .tc := ⟨.hbm, 135, rfl⟩
abbrev main_v120 : Ref sig .tc := ⟨.hbm, 136, rfl⟩
abbrev main_v121 : Ref sig .tc := ⟨.hbm, 137, rfl⟩
abbrev main_v122 : Ref sig .tc := ⟨.hbm, 138, rfl⟩
abbrev main_v123 : Ref sig .tc := ⟨.hbm, 139, rfl⟩
abbrev main_v124 : Ref sig .tc := ⟨.hbm, 140, rfl⟩
abbrev main_v125 : Ref sig .tc := ⟨.hbm, 141, rfl⟩
abbrev main_v126 : Ref sig .tc := ⟨.hbm, 142, rfl⟩
abbrev main_v127 : Ref sig .tc := ⟨.hbm, 143, rfl⟩
abbrev main_v128 : Ref sig .tc := ⟨.hbm, 144, rfl⟩
abbrev main_v129 : Ref sig .tc := ⟨.hbm, 145, rfl⟩
abbrev main_v130 : Ref sig .tc := ⟨.hbm, 146, rfl⟩
abbrev main_v131 : Ref sig .tc := ⟨.hbm, 147, rfl⟩
abbrev main_v132 : Ref sig .tc := ⟨.hbm, 148, rfl⟩
abbrev main_v133 : Ref sig .tc := ⟨.hbm, 149, rfl⟩
abbrev main_v134 : Ref sig .tc := ⟨.hbm, 150, rfl⟩
abbrev main_v135 : Ref sig .tc := ⟨.hbm, 151, rfl⟩
abbrev main_v136 : Ref sig .tc := ⟨.hbm, 152, rfl⟩
abbrev main_v137 : Ref sig .tc := ⟨.hbm, 153, rfl⟩
abbrev main_v138 : Ref sig .tc := ⟨.hbm, 154, rfl⟩
abbrev main_v139 : Ref sig .tc := ⟨.hbm, 155, rfl⟩
abbrev main_v140 : Ref sig .tc := ⟨.hbm, 156, rfl⟩
abbrev main_v141 : Ref sig .tc := ⟨.hbm, 157, rfl⟩
abbrev main_v142 : Ref sig .tc := ⟨.hbm, 158, rfl⟩
abbrev main_v143 : Ref sig .tc := ⟨.hbm, 159, rfl⟩
abbrev main_v144 : Ref sig .tc := ⟨.hbm, 160, rfl⟩
abbrev main_v145 : Ref sig .tc := ⟨.hbm, 161, rfl⟩
abbrev main_v146 : Ref sig .tc := ⟨.hbm, 162, rfl⟩
abbrev main_v147 : Ref sig .tc := ⟨.hbm, 163, rfl⟩
abbrev main_v148 : Ref sig .tc := ⟨.hbm, 164, rfl⟩
abbrev main_v149 : Ref sig .tc := ⟨.hbm, 165, rfl⟩
abbrev main_v150 : Ref sig .tc := ⟨.hbm, 166, rfl⟩
abbrev main_v151 : Ref sig .tc := ⟨.hbm, 167, rfl⟩
abbrev main_v152 : Ref sig .tc := ⟨.hbm, 168, rfl⟩
abbrev main_v153 : Ref sig .tc := ⟨.hbm, 169, rfl⟩
abbrev main_v154 : Ref sig .tc := ⟨.hbm, 170, rfl⟩
abbrev main_v155 : Ref sig .tc := ⟨.hbm, 171, rfl⟩
abbrev main_v156 : Ref sig .tc := ⟨.hbm, 172, rfl⟩
abbrev main_v157 : Ref sig .tc := ⟨.hbm, 173, rfl⟩
abbrev main_v158 : Ref sig .tc := ⟨.hbm, 174, rfl⟩
abbrev main_v159 : Ref sig .tc := ⟨.hbm, 175, rfl⟩
abbrev main_v160 : Ref sig .tc := ⟨.hbm, 176, rfl⟩
abbrev main_v161 : Ref sig .tc := ⟨.hbm, 177, rfl⟩
abbrev main_v162 : Ref sig .tc := ⟨.hbm, 178, rfl⟩
abbrev main_v163 : Ref sig .tc := ⟨.hbm, 179, rfl⟩
abbrev main_v164 : Ref sig .tc := ⟨.hbm, 180, rfl⟩
abbrev main_v165 : Ref sig .tc := ⟨.hbm, 181, rfl⟩
abbrev main_v166 : Ref sig .tc := ⟨.hbm, 182, rfl⟩
abbrev main_v167 : Ref sig .tc := ⟨.hbm, 183, rfl⟩
abbrev main_v168 : Ref sig .tc := ⟨.hbm, 184, rfl⟩
abbrev main_v169 : Ref sig .tc := ⟨.hbm, 185, rfl⟩
abbrev main_v170 : Ref sig .tc := ⟨.hbm, 186, rfl⟩
abbrev main_v171 : Ref sig .tc := ⟨.hbm, 187, rfl⟩
abbrev main_v172 : Ref sig .tc := ⟨.hbm, 188, rfl⟩
abbrev main_v173 : Ref sig .tc := ⟨.hbm, 189, rfl⟩
abbrev main_v174 : Ref sig .tc := ⟨.hbm, 190, rfl⟩
abbrev main_v175 : Ref sig .tc := ⟨.hbm, 191, rfl⟩
abbrev main_v176 : Ref sig .tc := ⟨.hbm, 192, rfl⟩
abbrev main_cst_0 : Ref sig .tc := ⟨.hbm, 193, rfl⟩
abbrev main_v177 : Ref sig .tc := ⟨.hbm, 194, rfl⟩
abbrev main_v178 : Ref sig .tc := ⟨.hbm, 195, rfl⟩
abbrev main_v179 : Ref sig .tc := ⟨.hbm, 196, rfl⟩
abbrev main_v180 : Ref sig .tc := ⟨.hbm, 197, rfl⟩
abbrev main_v181 : Ref sig .tc := ⟨.hbm, 198, rfl⟩
abbrev main_v182 : Ref sig .tc := ⟨.hbm, 199, rfl⟩
abbrev main_v183 : Ref sig .tc := ⟨.hbm, 200, rfl⟩
abbrev main_v184 : Ref sig .tc := ⟨.hbm, 201, rfl⟩
abbrev main_v185 : Ref sig .tc := ⟨.hbm, 202, rfl⟩
abbrev main_v186 : Ref sig .tc := ⟨.hbm, 203, rfl⟩
abbrev main_v187 : Ref sig .tc := ⟨.hbm, 204, rfl⟩
abbrev main_v188 : Ref sig .tc := ⟨.hbm, 205, rfl⟩
abbrev main_v189 : Ref sig .tc := ⟨.hbm, 206, rfl⟩
abbrev main_v190 : Ref sig .tc := ⟨.hbm, 207, rfl⟩
abbrev main_v191 : Ref sig .tc := ⟨.hbm, 208, rfl⟩
abbrev main_v192 : Ref sig .tc := ⟨.hbm, 209, rfl⟩
abbrev main_v193 : Ref sig .tc := ⟨.hbm, 210, rfl⟩
abbrev main_v194 : Ref sig .tc := ⟨.hbm, 211, rfl⟩
abbrev main_v195 : Ref sig .tc := ⟨.hbm, 212, rfl⟩
abbrev main_v196 : Ref sig .tc := ⟨.hbm, 213, rfl⟩
abbrev main_v197 : Ref sig .tc := ⟨.hbm, 214, rfl⟩
abbrev main_v198 : Ref sig .tc := ⟨.hbm, 215, rfl⟩
abbrev main_v199 : Ref sig .tc := ⟨.hbm, 216, rfl⟩
abbrev main_v200 : Ref sig .tc := ⟨.hbm, 217, rfl⟩
abbrev main_v201 : Ref sig .tc := ⟨.hbm, 218, rfl⟩
abbrev main_v202 : Ref sig .tc := ⟨.hbm, 219, rfl⟩
abbrev main_v203 : Ref sig .tc := ⟨.hbm, 220, rfl⟩
abbrev main_v204 : Ref sig .tc := ⟨.hbm, 221, rfl⟩
abbrev main_v205 : Ref sig .tc := ⟨.hbm, 222, rfl⟩
abbrev main_v206 : Ref sig .tc := ⟨.hbm, 223, rfl⟩
abbrev main_v207 : Ref sig .tc := ⟨.hbm, 224, rfl⟩
abbrev main_v208 : Ref sig .tc := ⟨.hbm, 225, rfl⟩
abbrev main_v209 : Ref sig .tc := ⟨.hbm, 226, rfl⟩
abbrev main_v210 : Ref sig .tc := ⟨.hbm, 227, rfl⟩
abbrev main_v211 : Ref sig .tc := ⟨.hbm, 228, rfl⟩
abbrev main_v212 : Ref sig .tc := ⟨.hbm, 229, rfl⟩
abbrev main_v213 : Ref sig .tc := ⟨.hbm, 230, rfl⟩
abbrev main_v214 : Ref sig .tc := ⟨.hbm, 231, rfl⟩
abbrev main_v215 : Ref sig .tc := ⟨.hbm, 232, rfl⟩
abbrev main_v216 : Ref sig .tc := ⟨.hbm, 233, rfl⟩
abbrev main_v217 : Ref sig .tc := ⟨.hbm, 234, rfl⟩
abbrev main_v218 : Ref sig .tc := ⟨.hbm, 235, rfl⟩
abbrev main_v219 : Ref sig .tc := ⟨.hbm, 236, rfl⟩
abbrev main_v220 : Ref sig .tc := ⟨.hbm, 237, rfl⟩
abbrev main_v221 : Ref sig .tc := ⟨.hbm, 238, rfl⟩
abbrev main_v222 : Ref sig .tc := ⟨.hbm, 239, rfl⟩
abbrev main_v223 : Ref sig .tc := ⟨.hbm, 240, rfl⟩
abbrev main_v224 : Ref sig .tc := ⟨.hbm, 241, rfl⟩
abbrev main_v225 : Ref sig .tc := ⟨.hbm, 242, rfl⟩
abbrev main_v226 : Ref sig .tc := ⟨.hbm, 243, rfl⟩
abbrev main_v227 : Ref sig .tc := ⟨.hbm, 244, rfl⟩
abbrev main_v228 : Ref sig .tc := ⟨.hbm, 245, rfl⟩
abbrev main_v229 : Ref sig .tc := ⟨.hbm, 246, rfl⟩
abbrev main_v230 : Ref sig .tc := ⟨.hbm, 247, rfl⟩
abbrev main_v231 : Ref sig .tc := ⟨.hbm, 248, rfl⟩
abbrev main_v232 : Ref sig .tc := ⟨.hbm, 249, rfl⟩
abbrev main_v233 : Ref sig .tc := ⟨.hbm, 250, rfl⟩
abbrev main_v234 : Ref sig .tc := ⟨.hbm, 251, rfl⟩
abbrev main_v235 : Ref sig .tc := ⟨.hbm, 252, rfl⟩
abbrev main_v236 : Ref sig .tc := ⟨.hbm, 253, rfl⟩
abbrev main_v237 : Ref sig .tc := ⟨.hbm, 254, rfl⟩
abbrev main_v238 : Ref sig .tc := ⟨.hbm, 255, rfl⟩
abbrev main_v239 : Ref sig .tc := ⟨.hbm, 256, rfl⟩
abbrev main_v240 : Ref sig .tc := ⟨.hbm, 257, rfl⟩
abbrev main_v241 : Ref sig .tc := ⟨.hbm, 258, rfl⟩
abbrev main_v242 : Ref sig .tc := ⟨.hbm, 259, rfl⟩
abbrev main_v243 : Ref sig .tc := ⟨.hbm, 260, rfl⟩
abbrev main_v244 : Ref sig .tc := ⟨.hbm, 261, rfl⟩
abbrev main_v245 : Ref sig .tc := ⟨.hbm, 262, rfl⟩
abbrev main_v246 : Ref sig .tc := ⟨.hbm, 263, rfl⟩
abbrev main_v247 : Ref sig .tc := ⟨.hbm, 264, rfl⟩
abbrev main_v248 : Ref sig .tc := ⟨.hbm, 265, rfl⟩
abbrev main_v249 : Ref sig .tc := ⟨.hbm, 266, rfl⟩
abbrev main_v250 : Ref sig .tc := ⟨.hbm, 267, rfl⟩
abbrev main_v251 : Ref sig .tc := ⟨.hbm, 268, rfl⟩
abbrev main_v252 : Ref sig .tc := ⟨.hbm, 269, rfl⟩
abbrev main_v253 : Ref sig .tc := ⟨.hbm, 270, rfl⟩
abbrev main_v254 : Ref sig .tc := ⟨.hbm, 271, rfl⟩
abbrev main_v255 : Ref sig .tc := ⟨.hbm, 272, rfl⟩
abbrev main_v256 : Ref sig .tc := ⟨.hbm, 273, rfl⟩
abbrev main_v257 : Ref sig .tc := ⟨.hbm, 274, rfl⟩
abbrev main_v258 : Ref sig .tc := ⟨.hbm, 275, rfl⟩
abbrev main_v259 : Ref sig .tc := ⟨.hbm, 276, rfl⟩
abbrev main_v260 : Ref sig .tc := ⟨.hbm, 277, rfl⟩
abbrev main_v261 : Ref sig .tc := ⟨.hbm, 278, rfl⟩
abbrev main_v262 : Ref sig .tc := ⟨.hbm, 279, rfl⟩
abbrev main_v263 : Ref sig .tc := ⟨.hbm, 280, rfl⟩
abbrev main_v264 : Ref sig .tc := ⟨.hbm, 281, rfl⟩
abbrev main_v265 : Ref sig .tc := ⟨.hbm, 282, rfl⟩
abbrev main_v266 : Ref sig .tc := ⟨.hbm, 283, rfl⟩
abbrev main_v267 : Ref sig .tc := ⟨.hbm, 284, rfl⟩
abbrev main_cst_1 : Ref sig .tc := ⟨.hbm, 285, rfl⟩
abbrev main_v268 : Ref sig .tc := ⟨.hbm, 286, rfl⟩
abbrev main_v269 : Ref sig .tc := ⟨.hbm, 287, rfl⟩
abbrev main_v270 : Ref sig .tc := ⟨.hbm, 288, rfl⟩
abbrev main_v271 : Ref sig .tc := ⟨.hbm, 289, rfl⟩
abbrev main_v272 : Ref sig .tc := ⟨.hbm, 290, rfl⟩
abbrev main_v273 : Ref sig .tc := ⟨.hbm, 291, rfl⟩
abbrev main_v274 : Ref sig .tc := ⟨.hbm, 292, rfl⟩
abbrev main_v275 : Ref sig .tc := ⟨.hbm, 293, rfl⟩
abbrev main_cst_2 : Ref sig .tc := ⟨.hbm, 294, rfl⟩
abbrev main_v276 : Ref sig .tc := ⟨.hbm, 295, rfl⟩
abbrev main_v277 : Ref sig .tc := ⟨.hbm, 296, rfl⟩
abbrev main_cst_3 : Ref sig .tc := ⟨.hbm, 297, rfl⟩
abbrev main_v278 : Ref sig .tc := ⟨.hbm, 298, rfl⟩
abbrev main_v279 : Ref sig .tc := ⟨.hbm, 299, rfl⟩
abbrev main_c : Ref sig .tc := ⟨.hbm, 300, rfl⟩
abbrev main_call0_v0 : Ref sig .tc := ⟨.hbm, 301, rfl⟩
abbrev main_v280 : Ref sig .tc := ⟨.hbm, 302, rfl⟩
abbrev main_v281 : Ref sig .tc := ⟨.hbm, 303, rfl⟩
abbrev main_v282 : Ref sig .tc := ⟨.hbm, 304, rfl⟩
abbrev main_v283 : Ref sig .tc := ⟨.hbm, 305, rfl⟩
abbrev main_call1_cst : Ref sig .tc := ⟨.hbm, 306, rfl⟩
abbrev main_call1_v0 : Ref sig .tc := ⟨.hbm, 307, rfl⟩
abbrev main_v284 : Ref sig .tc := ⟨.hbm, 308, rfl⟩
abbrev main_c_4 : Ref sig .tc := ⟨.hbm, 309, rfl⟩
abbrev main_call2_v0 : Ref sig .tc := ⟨.hbm, 310, rfl⟩
abbrev main_v285 : Ref sig .tc := ⟨.hbm, 311, rfl⟩
abbrev main_v286 : Ref sig .tc := ⟨.hbm, 312, rfl⟩
abbrev main_v287 : Ref sig .tc := ⟨.hbm, 313, rfl⟩
abbrev main_v288 : Ref sig .tc := ⟨.hbm, 314, rfl⟩
abbrev main_v289 : Ref sig .tc := ⟨.hbm, 315, rfl⟩
abbrev main_v290 : Ref sig .tc := ⟨.hbm, 316, rfl⟩
abbrev main_cst_5 : Ref sig .tc := ⟨.hbm, 317, rfl⟩
abbrev main_v291 : Ref sig .tc := ⟨.hbm, 318, rfl⟩
abbrev main_v292 : Ref sig .tc := ⟨.hbm, 319, rfl⟩
abbrev main_cst_6 : Ref sig .tc := ⟨.hbm, 320, rfl⟩
abbrev main_v293 : Ref sig .tc := ⟨.hbm, 321, rfl⟩
abbrev main_v294 : Ref sig .tc := ⟨.hbm, 322, rfl⟩
abbrev main_v295 : Ref sig .tc := ⟨.hbm, 323, rfl⟩
abbrev main_v296 : Ref sig .tc := ⟨.hbm, 324, rfl⟩
abbrev main_cst_7 : Ref sig .tc := ⟨.hbm, 325, rfl⟩
abbrev main_v297 : Ref sig .tc := ⟨.hbm, 326, rfl⟩
abbrev main_v298 : Ref sig .tc := ⟨.hbm, 327, rfl⟩
abbrev main_cst_8 : Ref sig .tc := ⟨.hbm, 328, rfl⟩
abbrev main_v299 : Ref sig .tc := ⟨.hbm, 329, rfl⟩
abbrev main_v300 : Ref sig .tc := ⟨.hbm, 330, rfl⟩
abbrev main_cst_9 : Ref sig .tc := ⟨.hbm, 331, rfl⟩
abbrev main_v301 : Ref sig .tc := ⟨.hbm, 332, rfl⟩
abbrev main_v302 : Ref sig .tc := ⟨.hbm, 333, rfl⟩
abbrev main_v303 : Ref sig .tc := ⟨.hbm, 334, rfl⟩
abbrev main_c_10 : Ref sig .tc := ⟨.hbm, 335, rfl⟩
abbrev main_call3_v0 : Ref sig .tc := ⟨.hbm, 336, rfl⟩
abbrev main_v304 : Ref sig .tc := ⟨.hbm, 337, rfl⟩
abbrev main_v305 : Ref sig .tc := ⟨.hbm, 338, rfl⟩
abbrev main_v306 : Ref sig .tc := ⟨.hbm, 339, rfl⟩
abbrev main_v307 : Ref sig .tc := ⟨.hbm, 340, rfl⟩
abbrev main_v308 : Ref sig .tc := ⟨.hbm, 341, rfl⟩
abbrev main_v309 : Ref sig .tc := ⟨.hbm, 342, rfl⟩
abbrev main_v310 : Ref sig .tc := ⟨.hbm, 343, rfl⟩
abbrev main_v311 : Ref sig .tc := ⟨.hbm, 344, rfl⟩
abbrev main_v312 : Ref sig .tc := ⟨.hbm, 345, rfl⟩
abbrev main_v313 : Ref sig .tc := ⟨.hbm, 346, rfl⟩
abbrev main_v314 : Ref sig .tc := ⟨.hbm, 347, rfl⟩
abbrev main_v315 : Ref sig .tc := ⟨.hbm, 348, rfl⟩
abbrev main_v316 : Ref sig .tc := ⟨.hbm, 349, rfl⟩
abbrev main_v317 : Ref sig .tc := ⟨.hbm, 350, rfl⟩
abbrev main_v318 : Ref sig .tc := ⟨.hbm, 351, rfl⟩
abbrev main_v319 : Ref sig .tc := ⟨.hbm, 352, rfl⟩
abbrev main_v320 : Ref sig .tc := ⟨.hbm, 353, rfl⟩
abbrev main_v321 : Ref sig .tc := ⟨.hbm, 354, rfl⟩
abbrev main_v322 : Ref sig .tc := ⟨.hbm, 355, rfl⟩
abbrev main_v323 : Ref sig .tc := ⟨.hbm, 356, rfl⟩
abbrev main_v324 : Ref sig .tc := ⟨.hbm, 357, rfl⟩
abbrev main_v325 : Ref sig .tc := ⟨.hbm, 358, rfl⟩
abbrev main_v326 : Ref sig .tc := ⟨.hbm, 359, rfl⟩
abbrev main_v327 : Ref sig .tc := ⟨.hbm, 360, rfl⟩
abbrev main_v328 : Ref sig .tc := ⟨.hbm, 361, rfl⟩
abbrev main_v329 : Ref sig .tc := ⟨.hbm, 362, rfl⟩
abbrev main_v330 : Ref sig .tc := ⟨.hbm, 363, rfl⟩
abbrev main_v331 : Ref sig .tc := ⟨.hbm, 364, rfl⟩
abbrev main_v332 : Ref sig .tc := ⟨.hbm, 365, rfl⟩
abbrev main_v333 : Ref sig .tc := ⟨.hbm, 366, rfl⟩
abbrev main_v334 : Ref sig .tc := ⟨.hbm, 367, rfl⟩
abbrev main_v335 : Ref sig .tc := ⟨.hbm, 368, rfl⟩
abbrev main_v336 : Ref sig .tc := ⟨.hbm, 369, rfl⟩
abbrev main_v337 : Ref sig .tc := ⟨.hbm, 370, rfl⟩
abbrev main_v338 : Ref sig .tc := ⟨.hbm, 371, rfl⟩
abbrev main_v339 : Ref sig .tc := ⟨.hbm, 372, rfl⟩
abbrev main_v340 : Ref sig .tc := ⟨.hbm, 373, rfl⟩
abbrev main_v341 : Ref sig .tc := ⟨.hbm, 374, rfl⟩
abbrev main_v342 : Ref sig .tc := ⟨.hbm, 375, rfl⟩
abbrev main_v343 : Ref sig .tc := ⟨.hbm, 376, rfl⟩
abbrev main_v344 : Ref sig .tc := ⟨.hbm, 377, rfl⟩
abbrev main_v345 : Ref sig .tc := ⟨.hbm, 378, rfl⟩
abbrev main_v346 : Ref sig .tc := ⟨.hbm, 379, rfl⟩
abbrev main_v347 : Ref sig .tc := ⟨.hbm, 380, rfl⟩
abbrev main_cst_11 : Ref sig .tc := ⟨.hbm, 381, rfl⟩
abbrev main_v348 : Ref sig .tc := ⟨.hbm, 382, rfl⟩
abbrev main_v349 : Ref sig .tc := ⟨.hbm, 383, rfl⟩
abbrev main_cst_12 : Ref sig .tc := ⟨.hbm, 384, rfl⟩
abbrev main_v350 : Ref sig .tc := ⟨.hbm, 385, rfl⟩
abbrev main_v351 : Ref sig .tc := ⟨.hbm, 386, rfl⟩
abbrev main_v352 : Ref sig .tc := ⟨.hbm, 387, rfl⟩
abbrev main_v353 : Ref sig .tc := ⟨.hbm, 388, rfl⟩
abbrev main_c_13 : Ref sig .tc := ⟨.hbm, 389, rfl⟩
abbrev main_call4_v0 : Ref sig .tc := ⟨.hbm, 390, rfl⟩
abbrev main_v354 : Ref sig .tc := ⟨.hbm, 391, rfl⟩
abbrev main_v355 : Ref sig .tc := ⟨.hbm, 392, rfl⟩
abbrev main_v356 : Ref sig .tc := ⟨.hbm, 393, rfl⟩
abbrev main_v357 : Ref sig .tc := ⟨.hbm, 394, rfl⟩
abbrev main_v358 : Ref sig .tc := ⟨.hbm, 395, rfl⟩
abbrev main_v359 : Ref sig .tc := ⟨.hbm, 396, rfl⟩
abbrev main_v360 : Ref sig .tc := ⟨.hbm, 397, rfl⟩
abbrev main_call5_cst : Ref sig .tc := ⟨.hbm, 398, rfl⟩
abbrev main_call5_v0 : Ref sig .tc := ⟨.hbm, 399, rfl⟩
abbrev main_call5_cst_0 : Ref sig .tc := ⟨.hbm, 400, rfl⟩
abbrev main_call5_v1 : Ref sig .tc := ⟨.hbm, 401, rfl⟩
abbrev main_call5_v2 : Ref sig .tc := ⟨.hbm, 402, rfl⟩
abbrev main_call5_v3 : Ref sig .tc := ⟨.hbm, 403, rfl⟩
abbrev main_call5_v4 : Ref sig .tc := ⟨.hbm, 404, rfl⟩
abbrev main_call5_v5 : Ref sig .tc := ⟨.hbm, 405, rfl⟩
abbrev main_call5_v6 : Ref sig .tc := ⟨.hbm, 406, rfl⟩
abbrev main_call5_cst_1 : Ref sig .tc := ⟨.hbm, 407, rfl⟩
abbrev main_call5_v7 : Ref sig .tc := ⟨.hbm, 408, rfl⟩
abbrev main_call5_v8 : Ref sig .tc := ⟨.hbm, 409, rfl⟩
abbrev main_call5_v9 : Ref sig .tc := ⟨.hbm, 410, rfl⟩
abbrev main_call5_v10 : Ref sig .tc := ⟨.hbm, 411, rfl⟩
abbrev main_v361 : Ref sig .tc := ⟨.hbm, 412, rfl⟩

abbrev nD : Nat := 1
abbrev τ : Topo := Topo.v7x

variable {F : FTy → Type} [FloatOps F]
-- ==== Proof.Segment.lean ====
/- One pallas_call of @main as a segment of its run, for any of the four: the contents it leaves behind, and the
   segment from the proof data of its pipeline. -/
module

public import proofs.«01_k».proof.Proof.Gen.KernelIdeal.Launch
public import proofs.«01_k».proof.Proof.Gen.KernelIdeal.Regions
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic

@[expose] public section

set_option maxRecDepth 16384

noncomputable section

namespace Cert.KernelIdeal.Layers

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Proof data for the pipeline of call `p`, on every core. -/
abbrev Data (F : FTy → Type) [FloatOps F] (p : Fin 4) := (c : Dev nD) → Dat τ (Elt F) Unit ℕ (UR sig nD τ) ℕ (Pipeline.pin (pcfgs (F := F)) adm p) c

/-- The contents call `p` leaves, from the contents `W` it is entered with: its arrays as the pipeline leaves them,
    every other buffer as it was. -/
def leave (p : Fin 4) (D : Data F p) (W : Dev nD → Valuation τ sig (Elt F)) (c : Dev nD) : Valuation τ sig (Elt F) :=
  Pipeline.withArrays (cfgs p).spec c (W c) fun w => (D c).arrAt w (cfgs p).N

/-- An array of the call holds what the pipeline leaves in it. -/
theorem leave_arr (p : Fin 4) (D : Data F p) (W : Dev nD → Valuation τ sig (Elt F)) (hl : Pipeline.LaunchFacts (nD := nD) (τ := τ) cfgs p)
    (c : Dev nD) (w : Fin (cfgs p).W) : leave p D W c (Proc.devRef .tc (Pipeline.arrRef (cfgs p).spec w)) = (D c).arrAt w (cfgs p).N := by
  unfold leave; exact Pipeline.withArrays_arr (cfgs p).spec hl.win.arr_inj c _ _ w

/-- A buffer that is none of the call's arrays keeps its contents, -/
theorem leave_ne (p : Fin 4) (D : Data F p) (W : Dev nD → Valuation τ sig (Elt F)) (c : Dev nD) (b : Ref sig .tc)
    (hb : ∀ w, Pipeline.arrRef (cfgs p).spec w ≠ b) : leave p D W c (Proc.devRef .tc b) = W c (Proc.devRef .tc b) := by
  unfold leave; exact Pipeline.withArrays_of_ne (cfgs p).spec c _ _ b hb

/-- and so does an array that the call only reads. -/
theorem leave_of (p : Fin 4) (D : Data F p) (W : Dev nD → Valuation τ sig (Elt F)) (hl : Pipeline.LaunchFacts (nD := nD) (τ := τ) cfgs p)
    (hA : ∀ c w, (D c).A w = W c (Proc.devRef .tc (Pipeline.arrRef (cfgs p).spec w))) (c : Dev nD) (r : Ref sig .tc)
    (h : ∀ w : Fin (cfgs p).W, Pipeline.arrRef (cfgs p).spec w = r → ((cfgs p).win w).isOut = false) :
    leave p D W c (Proc.devRef .tc r) = W c (Proc.devRef .tc r) := by
  by_cases hw : ∃ w : Fin (cfgs p).W, Pipeline.arrRef (cfgs p).spec w = r
  · obtain ⟨w, rfl⟩ := hw
    exact (leave_arr p D W hl c w).trans (((D c).arrAt_in w (h w rfl) _).trans (hA c w))
  · exact leave_ne p D W c r fun w e => hw ⟨w, e⟩

abbrev noVariants : Variants := Variants.none
/-- No core owes another anything: no level is assigned. -/
abbrev noLevels : GSem nD τ sig → Finset Unit := fun _ => ∅
abbrev zeroLevel : GSem nD τ sig → Unit → ℕ := fun _ _ => 0
/-- What rides beside the buffers through every segment: the generator register at some state, and nothing owed. -/
abbrev Beside (c : Dev nD) : sProp 𝕄 := iprop((∃ r, prngReg c r) ∗ ∃ W, owes (c : Thread nD τ) (0 : CellTallies nD τ sig Unit) W)
/-- The thread state at a boundary: every unscoped buffer at the contents `W`, and `Beside`. -/
abbrev AtBoundary (W : Dev nD → Valuation τ sig (Elt F)) (c : Dev nD) : sProp 𝕄 :=
  iprop(StableHlo.held (c : Thread nD τ) (Pipeline.ucRefs τ sig) (W c) ∗ Beside c)

set_option backward.isDefEq.respectTransparency.types false in
/-- Call `p` as a segment: entered at the contents `W`, left at `leave p D W`. -/
def segmentOf (pd : (p : Fin 4) → Data F p) (p : Fin 4) (hl : Pipeline.LaunchFacts (nD := nD) (τ := τ) cfgs p)
    (W : Dev nD → Valuation τ sig (Elt F))
    (hbody : ∀ c, BodyObligation (pd p c) (defs₀ (F := F)) noVariants () Set.univ)
    (hA : ∀ c w, (pd p c).A w = W c (Proc.devRef .tc (Pipeline.arrRef (cfgs p).spec w)))
    (hq : ∀ c w, (pd p c).q w = fullShare) (howed : ∀ c t, (pd p c).owed t = 0) (hrec : ∀ c t, (pd p c).recorded t = Set.univ)
    (hin : ∀ c, Pipeline.ΦA (cfgs p).spec c ⊢ (pd p c).Φ 0) (hout : ∀ c, (pd p c).Φ (Fin.last _) ⊢ Pipeline.ΦA (cfgs p).spec c) :
    Pipeline.RegionSeg (pcfgs (F := F)) adm pd () defs₀ noVariants noLevels zeroLevel p where
  win := hl.win.to₀
  block_pos := hl.block_pos
  stage_whole := hl.stage_whole
  K := PEmpty
  osem k := k.elim
  ho := Pipeline.OwnSemFacts.none _
  hbody c := (hbody c).loose
  hwaits := Pipeline.hwaits_of_owed_zero _ _ _ _ noLevels zeroLevel p howed
  pre := AtBoundary W
  post := AtBoundary (leave p (pd p) W)
  X c := iprop(∃ r, prngReg c r)
  Y c := iprop(∃ r, prngReg c r)
  Z c := Pipeline.unscopedRest (Ix := Unit) (Name := ℕ) (U := UR sig nD τ) (Lvl := ℕ) (cfgs p).spec c (fun b => W c b)
  hentry c := by
    rw [Pipeline.ownSems0_none]
    have hsplit := Pipeline.arrays_of_unscopedBufs (p := p) (pcfgs (F := F)) adm pd hl.win hl.arr_whole c
      ((pd p c).share_full (hq c)) (fun b => W c b) (hA c)
    rw [Pipeline.unscopedBufs_held] at hsplit
    unfold Pipeline.Dat.owesAt Pipeline.owesWithin
    rw [howed]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · icases HO with ⟨%W', HO⟩; iexists W'; isplitr; · ipureintro; exact fun _ _ => Or.inl (by rw [hrec]; trivial)
      iexact HO
    isplitl [Hp]; · iexact Hp
    iexact Hrest
  hin c := by
    refine .trans ?_ (hin c)
    unfold Pipeline.ΦA
    iintro ⟨Hp, -, Hr⟩
    isplitl [Hr]; · iexact Hr
    iexact Hp
  hout c := by
    refine .trans (hout c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      hl.win hl.arr_whole c pd ((pd p c).share_full (hq c))
      (fun b => W c b) (fun b => leave p (pd p) W c b) ((pd p c).arrAt · (cfgs p).N) (fun w => (leave_arr p (pd p) W hl c w).symm)
      (fun b hb => leave_ne p (pd p) W c b fun w e => hb (Finset.mem_image.mpr ⟨w, Finset.mem_univ _, e⟩))
    rw [Pipeline.unscopedBufs_held] at hjoin
    unfold Pipeline.Dat.owesAt Pipeline.owesWithin
    rw [howed]
    iintro ⟨Ha, HO, HY, Hrest⟩
    imodintro
    isplitl [Ha Hrest]
    · iapply hjoin; isplitl [Ha] <;> iassumption
    isplitl [HY]; · iexact HY
    icases HO with ⟨%W', -, HO⟩; iexists W'; iexact HO

end Cert.KernelIdeal.Layers

end
-- ==== Proof.WholeAccess.lean ====
/- Loads and stores of a whole block: what a load of all of a memref reads, and what a store of all of it leaves.
   Each is stated so that rewriting finds it whichever way the rectangle's sizes are written. -/
module

public import Idealize.ShloMosaic.Lib.Pipeline.FrameBody
public import Idealize.ShloMosaic.Lib.VecWindow
public import proofs.«01_k».proof.Proof.Gen.KernelIdeal.Launch

@[expose] public section

noncomputable section

namespace Cert.KernelIdeal.Layers

open Idealize.ShloMosaic

variable {sig : RefSig} {κ : Kind} {sp : Space} {s : Shape} {e : EltTy} {Val : EltTy → Type}

/-- Loading all of a memref that holds `X` reads `X`. -/
theorem load_whole {m : Memref sig κ sp s e} (h : m.IsWhole) (X : s.Idx → Val e) {off : Fin s.rank → ℕ}
    (inb : ∀ a, off a + s.size a ≤ s.size a) :
    View.readAt Val m.view (Rect.unit off (no_index s.size) inb).toLoadRect (h.unread X) = X := by
  rw [View.readAt_full, h.read_unread]

/-- Storing into all of a view leaves the stored block there, whatever was there before. -/
theorem read_store_whole (v : View sig κ sp s e) (f : v.ty.Contents Val) {off : Fin s.rank → ℕ}
    (inb : ∀ a, off a + s.size a ≤ s.size a) (w : s.Idx → Val e) (L : List (View.Piece Val s e)) :
    v.read Val (v.writes Val f (⟨Rect.unit off (no_index s.size) inb, w⟩ :: L)) = w :=
  View.read_writes_full v f inb w L

/-- Loading all of a view just stored into reads the stored block. -/
theorem load_store_whole (v : View sig κ sp s e) (f : v.ty.Contents Val) {off off' : Fin s.rank → ℕ}
    (inb : ∀ a, off a + s.size a ≤ s.size a) (inb' : ∀ a, off' a + s.size a ≤ s.size a) (w : s.Idx → Val e)
    (L : List (View.Piece Val s e)) :
    v.readAt Val (Rect.unit off (no_index s.size) inb).toLoadRect
      (v.writes Val f (⟨Rect.unit off' (no_index s.size) inb', w⟩ :: L)) = w :=
  View.readAt_writes_full v f inb inb' w L

/-- The same, for a load stated over the stores alone. -/
theorem readCov_store_whole [∀ e, Nonempty (Val e)] (v : View sig κ sp s e) {off off' : Fin s.rank → ℕ}
    (inb : ∀ a, off a + s.size a ≤ s.size a) (inb' : ∀ a, off' a + s.size a ≤ s.size a) (w : s.Idx → Val e)
    (L : List (View.Piece Val s e)) :
    v.readCov (⟨Rect.unit off' (no_index s.size) inb', w⟩ :: L) (Rect.unit off (no_index s.size) inb).toLoadRect = w :=
  View.readCov_full v inb inb' w L

section Owned
open Idealize.SL Idealize.SL.RA Idealize.SL.BI
open scoped Idealize.SL.BI
open Idealize.SL.BI.BIBase Idealize.SL.BI.Laws Idealize.SL.ProofMode Idealize.SL.Sem
open Idealize.ShloMosaic.TcCoe

variable {F : FTy → Type} [FloatOps F]

local notation "𝕄" => MT nD τ Cert.KernelIdeal.sig Unit (Elt F) ℕ (UR Cert.KernelIdeal.sig nD τ) ℕ

/-- Owning a whole memref at `X` is owning its cells at the one raw content that reads `X`. -/
theorem owns_unread (c : Dev nD) {sp : Space} {s : Shape} {e : EltTy} {m : Memref Cert.KernelIdeal.sig .tc sp s e} (h : m.IsWhole)
    (q : PosShare TreeShare) (X : s.Idx → Elt F e) :
    (owns (c : Thread nD τ) m q X : sProp 𝕄) = iprop(m.view.loc (c : Thread nD τ) ↦[m.view.set]{q} h.unread X) := by
  have h₁ : (owns (c : Thread nD τ) m q X : sProp 𝕄) ⊢ iprop(m.view.loc (c : Thread nD τ) ↦[m.view.set]{q} h.unread X) := by
    unfold owns
    iintro ⟨%f, %hf, H⟩
    obtain rfl := h.eq_unread hf
    iexact H
  have h₂ : iprop(m.view.loc (c : Thread nD τ) ↦[m.view.set]{q} h.unread X) ⊢ (owns (c : Thread nD τ) m q X : sProp 𝕄) := by
    unfold owns
    iintro H
    iexists _; isplitr; · ipureintro; exact h.read_unread _
    iexact H
  exact BI.equiv_iff.mp ⟨h₁, h₂⟩

/-- Owning a memref's cells at raw contents that read `X` is owning it at `X`. -/
theorem owns_of_read (c : Dev nD) {sp : Space} {s : Shape} {e : EltTy} {m : Memref Cert.KernelIdeal.sig .tc sp s e}
    (q : PosShare TreeShare) (f : m.view.ty.Contents (Elt F)) (X : s.Idx → Elt F e) (hf : m.view.read (Elt F) f = X) :
    iprop(m.view.loc (c : Thread nD τ) ↦[m.view.set]{q} f) ⊢ (owns (c : Thread nD τ) m q X : sProp 𝕄) := by
  unfold owns
  iintro H
  iexists f; isplitr; · ipureintro; exact hf
  iexact H

end Owned

end Cert.KernelIdeal.Layers

end
-- ==== Proof.Body0.lean ====
/- The first layer's body (128 input channels), run at each kind of grid point: what it leaves in its
   two accumulators and in its output block, as the skeleton's payloads over what it was handed. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.WholeAccess
public import Idealize.ShloMosaic.Lib.Ring
public import Idealize.ShloMosaic.Lib.Tactic
public import Idealize.ShloMosaic.Lib.WordCmp

@[expose] public section

set_option maxRecDepth 16384

noncomputable section

namespace Cert.KernelIdeal.Layers

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The word test "the layer index is 0", as the first branch spells it. -/
abbrev isFirst0 (i : grid0.Coords) : Prop := (Scalar.cmpi .ne (Scalar.extui (Scalar.cmpi .eq (BitVec.ofNat 32 (i 0).val) 0#32)) 0#32) = 1#1
/-- The word test "the layer index is positive", as the second branch spells it. -/
abbrev isLater0 (i : grid0.Coords) : Prop := (Scalar.cmpi .ne (Scalar.extui (Scalar.cmpi .sgt (BitVec.ofNat 32 (i 0).val) 0#32)) 0#32) = 1#1
/-- The word test "the layer index is the last one". -/
abbrev isLast0 (i : grid0.Coords) : Prop := k0_cond3 i = 1#1

theorem isFirst0_iff : ∀ t : Fin cfg0.N, isFirst0 (grid0.coords t) ↔ t.val = 0 :=
  (by decide +kernel : ∀ t : Fin grid0.N, isFirst0 (grid0.coords t) ↔ t.val = 0)
theorem isLater0_iff : ∀ t : Fin cfg0.N, isLater0 (grid0.coords t) ↔ t.val ≠ 0 :=
  (by decide +kernel : ∀ t : Fin grid0.N, isLater0 (grid0.coords t) ↔ t.val ≠ 0)
theorem isLast0_iff : ∀ t : Fin cfg0.N, isLast0 (grid0.coords t) ↔ t.val = 2 :=
  (by decide +kernel : ∀ t : Fin grid0.N, isLast0 (grid0.coords t) ↔ t.val = 2)

section
variable (c : Dev nD) (i : grid0.Coords) (arg1 : Memref sig .tc .vmem S2048x128 .f32) (harg1 : arg1.IsWhole) (arg2 : Memref sig .tc .vmem S2048x128 .f32) (harg2 : arg2.IsWhole) (arg3 : Memref sig .tc .vmem S1x128x8 .f32) (harg3 : arg3.IsWhole) (arg4 : Memref sig .tc .vmem S1x8 .f32) (harg4 : arg4.IsWhole) (arg5 : Memref sig .tc .vmem S1x2048x2048 .bf16) (harg5 : arg5.IsWhole) (arg6 : Memref sig .tc .vmem S1x2048x2048 .bf16) (harg6 : arg6.IsWhole) (arg7 : Memref sig .tc .vmem S2048x16 .f32) (harg7 : arg7.IsWhole) (arg8 : Memref sig .tc .vmem S2048x8 .f32) (harg8 : arg8.IsWhole) (arg9 : Memref sig .tc .vmem S2048x8 .f32) (harg9 : arg9.IsWhole)
  (x0 : Vec F S2048x128 .f32) (x1 : Vec F S2048x128 .f32) (x2 : Vec F S1x128x8 .f32) (x3 : Vec F S1x8 .f32) (x4 : Vec F S1x2048x2048 .bf16) (x5 : Vec F S1x2048x2048 .bf16) (d6 : Vec F S2048x16 .f32) (s0 s1 : Vec F S2048x8 .f32)

/-- The six input blocks of the body, each owned at its contents. -/
def ins0 : sProp 𝕄 :=
  iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5)

set_option maxHeartbeats 1000000 in
/-- The first grid point: both accumulators are set to this point's contribution; the output block is left alone. -/
theorem run0_first (hc0 : isFirst0 i) (hc1 : ¬isLater0 i) (hc2 : ¬isLast0 i) (E : Set ℕ) (K : PUnit → sProp 𝕄) :
    iprop(ins0 c arg1 arg2 arg3 arg4 arg5 arg6 x0 x1 x2 x3 x4 x5 ∗ owns (c : Thread nD τ) arg7 fullShare d6
        ∗ owns (c : Thread nD τ) arg8 fullShare s0 ∗ owns (c : Thread nD τ) arg9 fullShare s1
        ∗ (iprop(ins0 c arg1 arg2 arg3 arg4 arg5 arg6 x0 x1 x2 x3 x4 x5 ∗ owns (c : Thread nD τ) arg7 fullShare d6
            ∗ owns (c : Thread nD τ) arg8 fullShare (k0_pay9 x0 x1 x4 x5 x2) ∗ owns (c : Thread nD τ) arg9 fullShare (k0_pay10 x0 x1 x4 x5 x2)) -∗ K ⟨⟩))
      ⊢ wp frame (wpE (defs₀ (F := F)) Variants.none c none) E (cc0__layer_body i arg1 harg1 arg2 harg2 arg3 harg3 arg4 harg4 arg5 harg5 arg6 harg6 arg7 harg7 arg8 harg8 arg9 harg9) K := by
  simp only [cc0__layer_body_eq_skeleton]; unfold cc0__layer_body_skel
  simp only [k0_part1_eq_skeleton]
  unfold ins0
  rw [owns_unread c harg1, owns_unread c harg2, owns_unread c harg3, owns_unread c harg4, owns_unread c harg5, owns_unread c harg6, owns_unread c harg7 _ d6]
  rw [owns_unread c harg8 _ s0, owns_unread c harg9 _ s1]
  iintro ⟨⟨H0, H1, H2, H3, H4, H5⟩, H6, HS0, HS1, Hk⟩
  sl_exec (disch := first | sl_exact hc0 | sl_exact hc1 | sl_exact hc2)
  sl_step
  iapply Hk
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [H6]; · iexact H6
  isplitl [HS0]
  · iapply owns_of_read (hf := ?_)
    swap; · iexact HS0
    simp only [read_store_whole, load_whole, load_store_whole, readCov_store_whole]
  iapply owns_of_read (hf := ?_)
  swap; · iexact HS1
  simp only [read_store_whole, load_whole, load_store_whole, readCov_store_whole]

set_option maxHeartbeats 1000000 in
/-- A middle grid point: this point's contribution is added to both accumulators; the output block is left alone. -/
theorem run0_middle (hc0 : ¬isFirst0 i) (hc1 : isLater0 i) (hc2 : ¬isLast0 i) (E : Set ℕ) (K : PUnit → sProp 𝕄) :
    iprop(ins0 c arg1 arg2 arg3 arg4 arg5 arg6 x0 x1 x2 x3 x4 x5 ∗ owns (c : Thread nD τ) arg7 fullShare d6
        ∗ owns (c : Thread nD τ) arg8 fullShare s0 ∗ owns (c : Thread nD τ) arg9 fullShare s1
        ∗ (iprop(ins0 c arg1 arg2 arg3 arg4 arg5 arg6 x0 x1 x2 x3 x4 x5 ∗ owns (c : Thread nD τ) arg7 fullShare d6
            ∗ owns (c : Thread nD τ) arg8 fullShare (k0_pay11 x0 x1 x4 x5 x2 s0) ∗ owns (c : Thread nD τ) arg9 fullShare (k0_pay12 x0 x1 x4 x5 x2 s1)) -∗ K ⟨⟩))
      ⊢ wp frame (wpE (defs₀ (F := F)) Variants.none c none) E (cc0__layer_body i arg1 harg1 arg2 harg2 arg3 harg3 arg4 harg4 arg5 harg5 arg6 harg6 arg7 harg7 arg8 harg8 arg9 harg9) K := by
  simp only [cc0__layer_body_eq_skeleton]; unfold cc0__layer_body_skel
  simp only [k0_part1_eq_skeleton]
  unfold ins0
  rw [owns_unread c harg1, owns_unread c harg2, owns_unread c harg3, owns_unread c harg4, owns_unread c harg5, owns_unread c harg6, owns_unread c harg7 _ d6]
  rw [owns_unread c harg8 _ s0, owns_unread c harg9 _ s1]
  iintro ⟨⟨H0, H1, H2, H3, H4, H5⟩, H6, HS0, HS1, Hk⟩
  sl_exec (disch := first | sl_exact hc0 | sl_exact hc1 | sl_exact hc2)
  sl_step
  iapply Hk
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [H6]; · iexact H6
  isplitl [HS0]
  · iapply owns_of_read (hf := ?_)
    swap; · iexact HS0
    simp only [read_store_whole, load_whole, load_store_whole, readCov_store_whole]
  iapply owns_of_read (hf := ?_)
  swap; · iexact HS1
  simp only [read_store_whole, load_whole, load_store_whole, readCov_store_whole]

set_option maxHeartbeats 1000000 in
/-- The last grid point: this point's contribution is added to both accumulators, and the output block is set from their new contents. -/
theorem run0_last (hc0 : ¬isFirst0 i) (hc1 : isLater0 i) (hc2 : isLast0 i) (E : Set ℕ) (K : PUnit → sProp 𝕄) :
    iprop(ins0 c arg1 arg2 arg3 arg4 arg5 arg6 x0 x1 x2 x3 x4 x5 ∗ owns (c : Thread nD τ) arg7 fullShare d6
        ∗ owns (c : Thread nD τ) arg8 fullShare s0 ∗ owns (c : Thread nD τ) arg9 fullShare s1
        ∗ (iprop(ins0 c arg1 arg2 arg3 arg4 arg5 arg6 x0 x1 x2 x3 x4 x5 ∗ owns (c : Thread nD τ) arg7 fullShare (k0_pay1 (k0_pay11 x0 x1 x4 x5 x2 s0) x3 (k0_pay12 x0 x1 x4 x5 x2 s1) x3)
            ∗ owns (c : Thread nD τ) arg8 fullShare (k0_pay11 x0 x1 x4 x5 x2 s0) ∗ owns (c : Thread nD τ) arg9 fullShare (k0_pay12 x0 x1 x4 x5 x2 s1)) -∗ K ⟨⟩))
      ⊢ wp frame (wpE (defs₀ (F := F)) Variants.none c none) E (cc0__layer_body i arg1 harg1 arg2 harg2 arg3 harg3 arg4 harg4 arg5 harg5 arg6 harg6 arg7 harg7 arg8 harg8 arg9 harg9) K := by
  simp only [cc0__layer_body_eq_skeleton]; unfold cc0__layer_body_skel
  simp only [k0_part1_eq_skeleton]
  unfold ins0
  rw [owns_unread c harg1, owns_unread c harg2, owns_unread c harg3, owns_unread c harg4, owns_unread c harg5, owns_unread c harg6, owns_unread c harg7 _ d6]
  rw [owns_unread c harg8 _ s0, owns_unread c harg9 _ s1]
  iintro ⟨⟨H0, H1, H2, H3, H4, H5⟩, H6, HS0, HS1, Hk⟩
  sl_exec (disch := first | sl_exact hc0 | sl_exact hc1 | sl_exact hc2)
  sl_step
  iapply Hk
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [H6]
  · iapply owns_of_read (hf := ?_)
    swap; · iexact H6
    try delta run0_last.sl.v38
    try delta run0_last.sl.v34
    try delta run0_last.sl.HS1_1
    try delta run0_last.sl.HS0_1
    simp only [read_store_whole, load_whole, load_store_whole, readCov_store_whole]
  isplitl [HS0]
  · iapply owns_of_read (hf := ?_)
    swap; · iexact HS0
    try delta run0_last.sl.v38
    try delta run0_last.sl.v34
    try delta run0_last.sl.HS1_1
    try delta run0_last.sl.HS0_1
    simp only [read_store_whole, load_whole, load_store_whole, readCov_store_whole]
  iapply owns_of_read (hf := ?_)
  swap; · iexact HS1
  try delta run0_last.sl.v38
  try delta run0_last.sl.v34
  try delta run0_last.sl.HS1_1
  try delta run0_last.sl.HS0_1
  simp only [read_store_whole, load_whole, load_store_whole, readCov_store_whole]

end

end Cert.KernelIdeal.Layers

end
-- ==== Proof.Carry.lean ====
/- The separation-logic bookkeeping that the three layers' bodies share: two accumulators carried from point to point,
   six inputs handed in and handed back, an output buffer that is stored to at the last point only. -/
module

public import Idealize.ShloMosaic.Lib.Pipeline.FrameBody
public import Idealize.ShloMosaic.Lib.Tactic

@[expose] public section

namespace Cert.Carry

open Idealize.SL Idealize.SL.RA Idealize.SL.BI
open scoped Idealize.SL.BI
open Idealize.SL.BI.BIBase Idealize.SL.BI.Laws Idealize.SL.ProofMode

universe u v
variable {M : Type u} [URA M] {α β γ : Type v}

/-- The first point: from accumulators at anything to accumulators at `a`, `b`; the output buffer `O d` is not touched. -/
theorem first (W : (PUnit → sProp M) → sProp M) (I : sProp M) (O : γ → sProp M) (S0 : α → sProp M) (S1 : β → sProp M) (R G : sProp M)
    (d : γ) (a : α) (b : β) (K : PUnit → sProp M)
    (run : ∀ s0 s1 (K : PUnit → sProp M), iprop(I ∗ O d ∗ S0 s0 ∗ S1 s1 ∗ (iprop(I ∗ O d ∗ S0 a ∗ S1 b) -∗ K ⟨⟩)) ⊢ W K) :
    iprop(I ∗ O d ∗ ((((∃ s, S0 s) ∗ (∃ s, S1 s)) ∗ R) ∗ G) ∗ (iprop(I ∗ (∃ d, O d) ∗ (((S0 a ∗ S1 b) ∗ R) ∗ G)) -∗ K ⟨⟩)) ⊢ W K := by
  iintro ⟨Hi, H6, ⟨⟨⟨⟨%s0, HS0⟩, ⟨%s1, HS1⟩⟩, Hr⟩, Hg⟩, Hk⟩
  iapply (run s0 s1 K)
  isplitl [Hi]; · iexact Hi
  isplitl [H6]; · iexact H6
  isplitl [HS0]; · iexact HS0
  isplitl [HS1]; · iexact HS1
  iintro ⟨Hi, H6, HS0, HS1⟩
  iapply Hk
  isplitl [Hi]; · iexact Hi
  isplitl [H6]; · iexists _; iexact H6
  isplitr [Hg]
  · isplitr [Hr]
    · isplitl [HS0]; · iexact HS0
      iexact HS1
    iexact Hr
  iexact Hg

/-- A later point: from accumulators at `a`, `b` to `a'`, `b'`; the output buffer goes from `O` to `O'`. -/
theorem later (W : (PUnit → sProp M) → sProp M) (I O O' : sProp M) (S0 : α → sProp M) (S1 : β → sProp M) (R G : sProp M)
    (a a' : α) (b b' : β) (K : PUnit → sProp M)
    (run : ∀ (K : PUnit → sProp M), iprop(I ∗ O ∗ S0 a ∗ S1 b ∗ (iprop(I ∗ O' ∗ S0 a' ∗ S1 b') -∗ K ⟨⟩)) ⊢ W K) :
    iprop(I ∗ O ∗ (((S0 a ∗ S1 b) ∗ R) ∗ G) ∗ (iprop(I ∗ O' ∗ (((S0 a' ∗ S1 b') ∗ R) ∗ G)) -∗ K ⟨⟩)) ⊢ W K := by
  iintro ⟨Hi, H6, ⟨⟨⟨HS0, HS1⟩, Hr⟩, Hg⟩, Hk⟩
  iapply (run K)
  isplitl [Hi]; · iexact Hi
  isplitl [H6]; · iexact H6
  isplitl [HS0]; · iexact HS0
  isplitl [HS1]; · iexact HS1
  iintro ⟨Hi, H6, HS0, HS1⟩
  iapply Hk
  isplitl [Hi]; · iexact Hi
  isplitl [H6]; · iexact H6
  isplitr [Hg]
  · isplitr [Hr]
    · isplitl [HS0]; · iexact HS0
      iexact HS1
    iexact Hr
  iexact Hg

/-- The same where the output buffer is handed back at whatever it held. -/
theorem later_forget (W : (PUnit → sProp M) → sProp M) (I : sProp M) (O : γ → sProp M) (S0 : α → sProp M) (S1 : β → sProp M) (R G : sProp M)
    (d : γ) (a a' : α) (b b' : β) (K : PUnit → sProp M)
    (run : ∀ (K : PUnit → sProp M), iprop(I ∗ O d ∗ S0 a ∗ S1 b ∗ (iprop(I ∗ O d ∗ S0 a' ∗ S1 b') -∗ K ⟨⟩)) ⊢ W K) :
    iprop(I ∗ O d ∗ (((S0 a ∗ S1 b) ∗ R) ∗ G) ∗ (iprop(I ∗ (∃ d, O d) ∗ (((S0 a' ∗ S1 b') ∗ R) ∗ G)) -∗ K ⟨⟩)) ⊢ W K := by
  refine later W I (O d) (iprop(∃ d, O d)) S0 S1 R G a a' b b' K fun K => .trans ?_ (run K)
  iintro ⟨Hi, H6, HS0, HS1, Hk⟩
  isplitl [Hi]; · iexact Hi
  isplitl [H6]; · iexact H6
  isplitl [HS0]; · iexact HS0
  isplitl [HS1]; · iexact HS1
  iintro ⟨Hi, H6, HS0, HS1⟩
  iapply Hk
  isplitl [Hi]; · iexact Hi
  isplitl [H6]; · iexists _; iexact H6
  isplitl [HS0]; · iexact HS0
  iexact HS1

/-- Accumulators at known contents are accumulators at some contents. -/
theorem forget (S0 : α → sProp M) (S1 : β → sProp M) (R G : sProp M) (a : α) (b : β) :
    iprop(((S0 a ∗ S1 b) ∗ R) ∗ G) ⊢ iprop((((∃ s, S0 s) ∗ (∃ s, S1 s)) ∗ R) ∗ G) := by
  iintro ⟨⟨⟨HS0, HS1⟩, Hr⟩, Hg⟩
  isplitr [Hg]
  · isplitr [Hr]
    · isplitl [HS0]; · iexists _; iexact HS0
      iexists _; iexact HS1
    iexact Hr
  iexact Hg

/-- A body's obligation from its run: inputs `P i d` that are at `Q i` whatever `d`, an output buffer, a carried
    assertion `Φ` (as the run wants it, `Φr`), and debts `D` that the body leaves alone. -/
theorem assemble {α₀ α₁ α₂ α₃ α₄ α₅ : Type v} (W : (PUnit → sProp M) → sProp M)
    (P0 : α₀ → sProp M) (P1 : α₁ → sProp M) (P2 : α₂ → sProp M) (P3 : α₃ → sProp M) (P4 : α₄ → sProp M) (P5 : α₅ → sProp M)
    (Q0 Q1 Q2 Q3 Q4 Q5 : sProp M) (h0 : ∀ d, P0 d = Q0) (h1 : ∀ d, P1 d = Q1) (h2 : ∀ d, P2 d = Q2) (h3 : ∀ d, P3 d = Q3) (h4 : ∀ d, P4 d = Q4) (h5 : ∀ d, P5 d = Q5)
    (Φ Φ' D : sProp M) (O : γ → sProp M) (O' : sProp M)
    (run : ∀ d (K : PUnit → sProp M), iprop((Q0 ∗ Q1 ∗ Q2 ∗ Q3 ∗ Q4 ∗ Q5) ∗ O d ∗ Φ ∗ (iprop((Q0 ∗ Q1 ∗ Q2 ∗ Q3 ∗ Q4 ∗ Q5) ∗ O' ∗ Φ') -∗ K ⟨⟩)) ⊢ W K) :
    iprop(Φ ∗ D ∗ (∃ d, P0 d) ∗ (∃ d, P1 d) ∗ (∃ d, P2 d) ∗ (∃ d, P3 d) ∗ (∃ d, P4 d) ∗ (∃ d, P5 d) ∗ (∃ d, O d))
    ⊢ W (fun _ => iprop(Φ' ∗ D ∗ Q0 ∗ Q1 ∗ Q2 ∗ Q3 ∗ Q4 ∗ Q5 ∗ O')) := by
  simp only [h0, h1, h2, h3, h4, h5]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (run d6 _)
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [H6]; · iexact H6
  isplitl [HΦ]; · iexact HΦ
  iintro ⟨⟨H0, H1, H2, H3, H4, H5⟩, Hl, HΦ⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact Hl

end Cert.Carry

end
-- ==== Proof.Region0.lean ====
/- The first layer's region (custom call 0): the contents its accumulators go through, the proof data of its
   pipeline, and the body obligation at every grid point. -/
module

public import proofs.«01_k».proof.Proof.Body0
public import proofs.«01_k».proof.Proof.Carry

@[expose] public section

set_option maxRecDepth 16384

noncomputable section

namespace Cert.KernelIdeal.Layers

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents as the region finds them
variable (V : (c : Dev nD) → (b : Ref sig .tc) → Buf (Elt F) ((c : Thread nD τ).loc b))

/-- Window `w`'s block at point `t`, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The two accumulators after point `n`: set at the first point, added to at every later one. -/
def acc0 (c : Dev nD) : (n : ℕ) → n < cfg0.N → Vec F S2048x8 .f32 × Vec F S2048x8 .f32
  | 0, h => (k0_pay9 (blk0 V c 0 ⟨0, h⟩) (blk0 V c 1 ⟨0, h⟩) (blk0 V c 4 ⟨0, h⟩) (blk0 V c 5 ⟨0, h⟩) (blk0 V c 2 ⟨0, h⟩),
      k0_pay10 (blk0 V c 0 ⟨0, h⟩) (blk0 V c 1 ⟨0, h⟩) (blk0 V c 4 ⟨0, h⟩) (blk0 V c 5 ⟨0, h⟩) (blk0 V c 2 ⟨0, h⟩))
  | n + 1, h => (k0_pay11 (blk0 V c 0 ⟨n + 1, h⟩) (blk0 V c 1 ⟨n + 1, h⟩) (blk0 V c 4 ⟨n + 1, h⟩) (blk0 V c 5 ⟨n + 1, h⟩) (blk0 V c 2 ⟨n + 1, h⟩) (acc0 c n (by omega)).1,
      k0_pay12 (blk0 V c 0 ⟨n + 1, h⟩) (blk0 V c 1 ⟨n + 1, h⟩) (blk0 V c 4 ⟨n + 1, h⟩) (blk0 V c 5 ⟨n + 1, h⟩) (blk0 V c 2 ⟨n + 1, h⟩) (acc0 c n (by omega)).2)

/-- The two accumulators' buffers. -/
abbrev scr0_0 : Memref sig .tc .vmem S2048x8 .f32 := Memref.whole cc0_scratch0
abbrev scr0_1 : Memref sig .tc .vmem S2048x8 .f32 := Memref.whole cc0_scratch1

/-- What the body keeps between points: before the first one the scoped buffers at anything; after point `n` the
    two accumulators at `acc0 n`, the other scoped buffers at anything. -/
def kept0 (c : Dev nD) : (n : ℕ) → n ≤ cfg0.N → sProp 𝕄
  | 0, _ => Pipeline.ΦA spec0 c
  | n + 1, h => iprop(((owns (c : Thread nD τ) scr0_0 fullShare (acc0 V c n h).1 ∗ owns (c : Thread nD τ) scr0_1 fullShare (acc0 V c n h).2)
      ∗ Pipeline.scopedRestBut spec0 c [cc0_scratch0, cc0_scratch1]) ∗ ∃ r, prngReg c r)

/-- The scoped buffers at anything, the two accumulators named. -/
theorem anything0 (c : Dev nD) : (Pipeline.ΦA spec0 c : sProp 𝕄)
    = iprop((((∃ d, owns (c : Thread nD τ) scr0_0 fullShare d) ∗ (∃ d, owns (c : Thread nD τ) scr0_1 fullShare d))
      ∗ Pipeline.scopedRestBut spec0 c [cc0_scratch0, cc0_scratch1]) ∗ ∃ r, prngReg c r) := by
  unfold Pipeline.ΦA; rw [scopedRest0_split]; simp only [scr0_0, scr0_1, owns_whole]; try rfl

/-- The proof data of the region's pipeline: each input's buffer at its block, the output's at the activation of the
    accumulators, nothing owed, full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => blk0 V c 5 t
    | ⟨6, _⟩ => k0_pay1 (acc0 V c t.val t.isLt).1 (blk0 V c 3 t) (acc0 V c t.val t.isLt).2 (blk0 V c 3 t)
  Φ t := kept0 V c t.val (Nat.le_of_lt_succ t.isLt)
  q _ := fullShare
  owed _ := 0

theorem dat0_A (c : Dev nD) (w : Fin cfg0.W) : (dat0 V c).A w = V c (Pipeline.arrRef spec0 w) := by dsimp only [dat0]

/-- An input's staging buffer holds its block when the body starts. -/
theorem before0 (c : Dev nD) (t : Fin cfg0.N) :
    (∀ d, (dat0 V c).before 0 t d = blk0 V c 0 t) ∧ (∀ d, (dat0 V c).before 1 t d = blk0 V c 1 t) ∧ (∀ d, (dat0 V c).before 2 t d = blk0 V c 2 t)
      ∧ (∀ d, (dat0 V c).before 3 t d = blk0 V c 3 t) ∧ (∀ d, (dat0 V c).before 4 t d = blk0 V c 4 t) ∧ (∀ d, (dat0 V c).before 5 t d = blk0 V c 5 t) := by
  refine ⟨?_, ?_, ?_, ?_, ?_, ?_⟩ <;> intro d <;>
  exact ((dat0 V c).before_in_eq_fetched _ rfl (fun _ => rfl) (fun _ _ _ => rfl)
      (fun t => by unfold Dat.blockOf; rw [dat0_A]; dsimp only [dat0]; rfl) t d).trans
    (by unfold Dat.fetched Dat.blockOf blk0; rw [dat0_A]; try rfl)

/-- At every point but the last the output is neither stored to nor written back. -/
theorem idle0 (t : Fin cfg0.N) (h : t.val ≠ 2) : cfg0.idle 6 (grid0.coords t) = true ∧ (cfg0.win 6).flush t = false :=
  (by decide +kernel : ∀ t : Fin cfg0.N, t.val ≠ 2 → cfg0.idle 6 (grid0.coords t) = true ∧ (cfg0.win 6).flush t = false) t h
theorem live0 (t : Fin cfg0.N) (h : t.val = 2) : cfg0.idle 6 (grid0.coords t) = false :=
  (by decide +kernel : ∀ t : Fin cfg0.N, t.val = 2 → cfg0.idle 6 (grid0.coords t) = false) t h

set_option maxHeartbeats 2000000 in
/-- The body at any point: from what the pipeline hands in to what it wants back. -/
theorem sound0 (c : Dev nD) (t : Fin cfg0.N) :
    iprop((dat0 V c).Φ t.castSucc ∗ (dat0 V c).owesAt () t.castSucc
      ∗ (∃ d, owns (c : Thread nD τ) (st0_0 t) fullShare ((dat0 V c).before 0 t d)) ∗ (∃ d, owns (c : Thread nD τ) (st0_1 t) fullShare ((dat0 V c).before 1 t d))
      ∗ (∃ d, owns (c : Thread nD τ) (st0_2 t) fullShare ((dat0 V c).before 2 t d)) ∗ (∃ d, owns (c : Thread nD τ) (st0_3 t) fullShare ((dat0 V c).before 3 t d))
      ∗ (∃ d, owns (c : Thread nD τ) (st0_4 t) fullShare ((dat0 V c).before 4 t d)) ∗ (∃ d, owns (c : Thread nD τ) (st0_5 t) fullShare ((dat0 V c).before 5 t d))
      ∗ (∃ d, owns (c : Thread nD τ) (st0_6 t) fullShare ((dat0 V c).before 6 t d)))
    ⊢ wp frame (wpE (defs₀ (F := F)) Variants.none c none) Set.univ (bodyAt0 t) (fun _ =>
      iprop((dat0 V c).Φ t.succ ∗ (dat0 V c).owesAt () t.succ ∗ (dat0 V c).leavesExact 0 t ∗ (dat0 V c).leavesExact 1 t ∗ (dat0 V c).leavesExact 2 t
        ∗ (dat0 V c).leavesExact 3 t ∗ (dat0 V c).leavesExact 4 t ∗ (dat0 V c).leavesExact 5 t ∗ (dat0 V c).leavesExact 6 t)) := by
  obtain ⟨b0, b1, b2, b3, b4, b5⟩ := before0 V c t
  refine Carry.assemble (wp frame (wpE (defs₀ (F := F)) Variants.none c none) Set.univ (bodyAt0 t)) _ _ _ _ _ _ _ _ _ _ _ _
    (fun d => by rw [b0]; rfl) (fun d => by rw [b1]; rfl) (fun d => by rw [b2]; rfl) (fun d => by rw [b3]; rfl) (fun d => by rw [b4]; rfl) (fun d => by rw [b5]; rfl)
    _ _ _ _ _ fun d K => ?_
  obtain ⟨n, hn⟩ := t
  obtain _ | n := n
  · rw [Dat.leavesExact_idle (dat0 V c) 6 ⟨0, hn⟩ (idle0 ⟨0, hn⟩ (by simp)).1 (idle0 ⟨0, hn⟩ (by simp)).2,
      show (dat0 V c).Φ (Fin.castSucc ⟨0, hn⟩) = _ from anything0 c]
    exact Carry.first _ _ (fun d => owns (c : Thread nD τ) (st0_6 ⟨0, hn⟩) fullShare ((dat0 V c).before 6 ⟨0, hn⟩ d)) _ _ _ _ d _ _ K fun s0 s1 K =>
      run0_first c (grid0.coords ⟨0, hn⟩) (st0_0 ⟨0, hn⟩) (hstage0_0 ((cfg0.slots ⟨0, hn⟩ 0).cast nbuf0_0)) (st0_1 ⟨0, hn⟩) (hstage0_1 ((cfg0.slots ⟨0, hn⟩ 1).cast nbuf0_1)) (st0_2 ⟨0, hn⟩) (hstage0_2 ((cfg0.slots ⟨0, hn⟩ 2).cast nbuf0_2)) (st0_3 ⟨0, hn⟩) (hstage0_3 ((cfg0.slots ⟨0, hn⟩ 3).cast nbuf0_3)) (st0_4 ⟨0, hn⟩) (hstage0_4 ((cfg0.slots ⟨0, hn⟩ 4).cast nbuf0_4)) (st0_5 ⟨0, hn⟩) (hstage0_5 ((cfg0.slots ⟨0, hn⟩ 5).cast nbuf0_5)) (st0_6 ⟨0, hn⟩) (hstage0_6 ((cfg0.slots ⟨0, hn⟩ 6).cast nbuf0_6)) scr0_0 (Memref.isWhole_whole _) scr0_1 (Memref.isWhole_whole _) (blk0 V c 0 ⟨0, hn⟩) (blk0 V c 1 ⟨0, hn⟩) (blk0 V c 2 ⟨0, hn⟩) (blk0 V c 3 ⟨0, hn⟩) (blk0 V c 4 ⟨0, hn⟩) (blk0 V c 5 ⟨0, hn⟩) _ s0 s1 ((isFirst0_iff ⟨0, hn⟩).2 rfl) (fun h => (isLater0_iff ⟨0, hn⟩).1 h rfl) (fun h => absurd ((isLast0_iff ⟨0, hn⟩).1 h) (by simp)) Set.univ K
  by_cases h2 : n + 1 = 2
  · rw [show (dat0 V c).leavesExact 6 ⟨n + 1, hn⟩ = owns (c : Thread nD τ) (st0_6 ⟨n + 1, hn⟩) fullShare ((dat0 V c).after 6 ⟨n + 1, hn⟩) from by
      unfold Dat.leavesExact; rw [live0 ⟨n + 1, hn⟩ h2]]
    exact Carry.later _ _ _ _ _ _ _ _ _ _ _ _ K fun K =>
      run0_last c (grid0.coords ⟨n + 1, hn⟩) (st0_0 ⟨n + 1, hn⟩) (hstage0_0 ((cfg0.slots ⟨n + 1, hn⟩ 0).cast nbuf0_0)) (st0_1 ⟨n + 1, hn⟩) (hstage0_1 ((cfg0.slots ⟨n + 1, hn⟩ 1).cast nbuf0_1)) (st0_2 ⟨n + 1, hn⟩) (hstage0_2 ((cfg0.slots ⟨n + 1, hn⟩ 2).cast nbuf0_2)) (st0_3 ⟨n + 1, hn⟩) (hstage0_3 ((cfg0.slots ⟨n + 1, hn⟩ 3).cast nbuf0_3)) (st0_4 ⟨n + 1, hn⟩) (hstage0_4 ((cfg0.slots ⟨n + 1, hn⟩ 4).cast nbuf0_4)) (st0_5 ⟨n + 1, hn⟩) (hstage0_5 ((cfg0.slots ⟨n + 1, hn⟩ 5).cast nbuf0_5)) (st0_6 ⟨n + 1, hn⟩) (hstage0_6 ((cfg0.slots ⟨n + 1, hn⟩ 6).cast nbuf0_6)) scr0_0 (Memref.isWhole_whole _) scr0_1 (Memref.isWhole_whole _) (blk0 V c 0 ⟨n + 1, hn⟩) (blk0 V c 1 ⟨n + 1, hn⟩) (blk0 V c 2 ⟨n + 1, hn⟩) (blk0 V c 3 ⟨n + 1, hn⟩) (blk0 V c 4 ⟨n + 1, hn⟩) (blk0 V c 5 ⟨n + 1, hn⟩) _ _ _ (fun h => absurd ((isFirst0_iff ⟨n + 1, hn⟩).1 h) (by simp)) ((isLater0_iff ⟨n + 1, hn⟩).2 (by simp)) ((isLast0_iff ⟨n + 1, hn⟩).2 h2) Set.univ K
  rw [Dat.leavesExact_idle (dat0 V c) 6 ⟨n + 1, hn⟩ (idle0 ⟨n + 1, hn⟩ h2).1 (idle0 ⟨n + 1, hn⟩ h2).2]
  exact Carry.later_forget _ _ (fun d => owns (c : Thread nD τ) (st0_6 ⟨n + 1, hn⟩) fullShare ((dat0 V c).before 6 ⟨n + 1, hn⟩ d)) _ _ _ _ d _ _ _ _ K fun K =>
    run0_middle c (grid0.coords ⟨n + 1, hn⟩) (st0_0 ⟨n + 1, hn⟩) (hstage0_0 ((cfg0.slots ⟨n + 1, hn⟩ 0).cast nbuf0_0)) (st0_1 ⟨n + 1, hn⟩) (hstage0_1 ((cfg0.slots ⟨n + 1, hn⟩ 1).cast nbuf0_1)) (st0_2 ⟨n + 1, hn⟩) (hstage0_2 ((cfg0.slots ⟨n + 1, hn⟩ 2).cast nbuf0_2)) (st0_3 ⟨n + 1, hn⟩) (hstage0_3 ((cfg0.slots ⟨n + 1, hn⟩ 3).cast nbuf0_3)) (st0_4 ⟨n + 1, hn⟩) (hstage0_4 ((cfg0.slots ⟨n + 1, hn⟩ 4).cast nbuf0_4)) (st0_5 ⟨n + 1, hn⟩) (hstage0_5 ((cfg0.slots ⟨n + 1, hn⟩ 5).cast nbuf0_5)) (st0_6 ⟨n + 1, hn⟩) (hstage0_6 ((cfg0.slots ⟨n + 1, hn⟩ 6).cast nbuf0_6)) scr0_0 (Memref.isWhole_whole _) scr0_1 (Memref.isWhole_whole _) (blk0 V c 0 ⟨n + 1, hn⟩) (blk0 V c 1 ⟨n + 1, hn⟩) (blk0 V c 2 ⟨n + 1, hn⟩) (blk0 V c 3 ⟨n + 1, hn⟩) (blk0 V c 4 ⟨n + 1, hn⟩) (blk0 V c 5 ⟨n + 1, hn⟩) _ _ _ (fun h => absurd ((isFirst0_iff ⟨n + 1, hn⟩).1 h) (by simp)) ((isLater0_iff ⟨n + 1, hn⟩).2 (by simp)) (fun h => h2 ((isLast0_iff ⟨n + 1, hn⟩).1 h)) Set.univ K

/-- The body table's row for this call is the body at the point's staging buffers. -/
theorem row0 (t : Fin cfg0.N) : defs₀ (F := F) .tc cfg0.body (cfg0.bodyArgs t (cfg0.slots t)) = bodyAt0 t := by
  unfold defs₀; rw [Defs.onTc_tc]

/-- The obligation the launch asks of the body. -/
theorem obligation0 (c : Dev nD) : BodyObligation (dat0 V c) (defs₀ (F := F)) Variants.none () Set.univ := fun t => by
  rw [bigSep_W0, bigSep_W0, row0]
  exact triple_restated (sound0 V c t) rfl .rfl fun _ => .rfl

/-- What the launch hands the region is what is kept before the first point, -/
theorem enter0 (c : Dev nD) : Pipeline.ΦA spec0 c ⊢ (dat0 V c).Φ 0 := .rfl

/-- and what is kept after the last point gives it back. -/
theorem exit0 (c : Dev nD) : (dat0 V c).Φ (Fin.last cfg0.N) ⊢ Pipeline.ΦA spec0 c := by
  rw [anything0]
  exact Carry.forget (fun d => owns (c : Thread nD τ) scr0_0 fullShare d) (fun d => owns (c : Thread nD τ) scr0_1 fullShare d) _ _ _ _

end Cert.KernelIdeal.Layers

end
-- ==== Proof.Body1.lean ====
/- The body of a later layer (8 input channels), run at each kind of grid point: what it leaves in its
   two accumulators and in its output block, as the skeleton's payloads over what it was handed. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.WholeAccess
public import Idealize.ShloMosaic.Lib.Ring
public import Idealize.ShloMosaic.Lib.Tactic
public import Idealize.ShloMosaic.Lib.WordCmp

@[expose] public section

set_option maxRecDepth 16384

noncomputable section

namespace Cert.KernelIdeal.Layers

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The word test "the layer index is 0", as the first branch spells it. -/
abbrev isFirst1 (i : grid1.Coords) : Prop := (Scalar.cmpi .ne (Scalar.extui (Scalar.cmpi .eq (BitVec.ofNat 32 (i 0).val) 0#32)) 0#32) = 1#1
/-- The word test "the layer index is positive", as the second branch spells it. -/
abbrev isLater1 (i : grid1.Coords) : Prop := (Scalar.cmpi .ne (Scalar.extui (Scalar.cmpi .sgt (BitVec.ofNat 32 (i 0).val) 0#32)) 0#32) = 1#1
/-- The word test "the layer index is the last one". -/
abbrev isLast1 (i : grid1.Coords) : Prop := k1_cond3 i = 1#1

theorem isFirst1_iff : ∀ t : Fin cfg1.N, isFirst1 (grid1.coords t) ↔ t.val = 0 :=
  (by decide +kernel : ∀ t : Fin grid1.N, isFirst1 (grid1.coords t) ↔ t.val = 0)
theorem isLater1_iff : ∀ t : Fin cfg1.N, isLater1 (grid1.coords t) ↔ t.val ≠ 0 :=
  (by decide +kernel : ∀ t : Fin grid1.N, isLater1 (grid1.coords t) ↔ t.val ≠ 0)
theorem isLast1_iff : ∀ t : Fin cfg1.N, isLast1 (grid1.coords t) ↔ t.val = 2 :=
  (by decide +kernel : ∀ t : Fin grid1.N, isLast1 (grid1.coords t) ↔ t.val = 2)

section
variable (c : Dev nD) (i : grid1.Coords) (arg1 : Memref sig .tc .vmem S2048x8 .f32) (harg1 : arg1.IsWhole) (arg2 : Memref sig .tc .vmem S2048x8 .f32) (harg2 : arg2.IsWhole) (arg3 : Memref sig .tc .vmem S1x8x8 .f32) (harg3 : arg3.IsWhole) (arg4 : Memref sig .tc .vmem S1x8 .f32) (harg4 : arg4.IsWhole) (arg5 : Memref sig .tc .vmem S1x2048x2048 .bf16) (harg5 : arg5.IsWhole) (arg6 : Memref sig .tc .vmem S1x2048x2048 .bf16) (harg6 : arg6.IsWhole) (arg7 : Memref sig .tc .vmem S2048x16 .f32) (harg7 : arg7.IsWhole) (arg8 : Memref sig .tc .vmem S2048x8 .f32) (harg8 : arg8.IsWhole) (arg9 : Memref sig .tc .vmem S2048x8 .f32) (harg9 : arg9.IsWhole)
  (x0 : Vec F S2048x8 .f32) (x1 : Vec F S2048x8 .f32) (x2 : Vec F S1x8x8 .f32) (x3 : Vec F S1x8 .f32) (x4 : Vec F S1x2048x2048 .bf16) (x5 : Vec F S1x2048x2048 .bf16) (d6 : Vec F S2048x16 .f32) (s0 s1 : Vec F S2048x8 .f32)

/-- The six input blocks of the body, each owned at its contents. -/
def ins1 : sProp 𝕄 :=
  iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5)

set_option maxHeartbeats 1000000 in
/-- The first grid point: both accumulators are set to this point's contribution; the output block is left alone. -/
theorem run1_first (hc0 : isFirst1 i) (hc1 : ¬isLater1 i) (hc2 : ¬isLast1 i) (E : Set ℕ) (K : PUnit → sProp 𝕄) :
    iprop(ins1 c arg1 arg2 arg3 arg4 arg5 arg6 x0 x1 x2 x3 x4 x5 ∗ owns (c : Thread nD τ) arg7 fullShare d6
        ∗ owns (c : Thread nD τ) arg8 fullShare s0 ∗ owns (c : Thread nD τ) arg9 fullShare s1
        ∗ (iprop(ins1 c arg1 arg2 arg3 arg4 arg5 arg6 x0 x1 x2 x3 x4 x5 ∗ owns (c : Thread nD τ) arg7 fullShare d6
            ∗ owns (c : Thread nD τ) arg8 fullShare (k1_pay11 x0 x1 x4 x5 x2) ∗ owns (c : Thread nD τ) arg9 fullShare (k1_pay12 x0 x1 x4 x5 x2)) -∗ K ⟨⟩))
      ⊢ wp frame (wpE (defs₀ (F := F)) Variants.none c none) E (cc1__layer_body i arg1 harg1 arg2 harg2 arg3 harg3 arg4 harg4 arg5 harg5 arg6 harg6 arg7 harg7 arg8 harg8 arg9 harg9) K := by
  simp only [cc1__layer_body_eq_skeleton]; unfold cc1__layer_body_skel
  simp only [k1_part1_eq_skeleton]
  unfold ins1
  rw [owns_unread c harg1, owns_unread c harg2, owns_unread c harg3, owns_unread c harg4, owns_unread c harg5, owns_unread c harg6, owns_unread c harg7 _ d6]
  rw [owns_unread c harg8 _ s0, owns_unread c harg9 _ s1]
  iintro ⟨⟨H0, H1, H2, H3, H4, H5⟩, H6, HS0, HS1, Hk⟩
  sl_exec (disch := first | sl_exact hc0 | sl_exact hc1 | sl_exact hc2)
  sl_step
  iapply Hk
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [H6]; · iexact H6
  isplitl [HS0]
  · iapply owns_of_read (hf := ?_)
    swap; · iexact HS0
    simp only [read_store_whole, load_whole, load_store_whole, readCov_store_whole]
  iapply owns_of_read (hf := ?_)
  swap; · iexact HS1
  simp only [read_store_whole, load_whole, load_store_whole, readCov_store_whole]

set_option maxHeartbeats 1000000 in
/-- A middle grid point: this point's contribution is added to both accumulators; the output block is left alone. -/
theorem run1_middle (hc0 : ¬isFirst1 i) (hc1 : isLater1 i) (hc2 : ¬isLast1 i) (E : Set ℕ) (K : PUnit → sProp 𝕄) :
    iprop(ins1 c arg1 arg2 arg3 arg4 arg5 arg6 x0 x1 x2 x3 x4 x5 ∗ owns (c : Thread nD τ) arg7 fullShare d6
        ∗ owns (c : Thread nD τ) arg8 fullShare s0 ∗ owns (c : Thread nD τ) arg9 fullShare s1
        ∗ (iprop(ins1 c arg1 arg2 arg3 arg4 arg5 arg6 x0 x1 x2 x3 x4 x5 ∗ owns (c : Thread nD τ) arg7 fullShare d6
            ∗ owns (c : Thread nD τ) arg8 fullShare (k1_pay1 (k1_pay9 x0 x1 x4 x5 x2) s0) ∗ owns (c : Thread nD τ) arg9 fullShare (k1_pay2 (k1_pay10 x0 x1 x4 x5 x2) s1)) -∗ K ⟨⟩))
      ⊢ wp frame (wpE (defs₀ (F := F)) Variants.none c none) E (cc1__layer_body i arg1 harg1 arg2 harg2 arg3 harg3 arg4 harg4 arg5 harg5 arg6 harg6 arg7 harg7 arg8 harg8 arg9 harg9) K := by
  simp only [cc1__layer_body_eq_skeleton]; unfold cc1__layer_body_skel
  simp only [k1_part1_eq_skeleton]
  unfold ins1
  rw [owns_unread c harg1, owns_unread c harg2, owns_unread c harg3, owns_unread c harg4, owns_unread c harg5, owns_unread c harg6, owns_unread c harg7 _ d6]
  rw [owns_unread c harg8 _ s0, owns_unread c harg9 _ s1]
  iintro ⟨⟨H0, H1, H2, H3, H4, H5⟩, H6, HS0, HS1, Hk⟩
  sl_exec (disch := first | sl_exact hc0 | sl_exact hc1 | sl_exact hc2)
  sl_step
  iapply Hk
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [H6]; · iexact H6
  isplitl [HS0]
  · iapply owns_of_read (hf := ?_)
    swap; · iexact HS0
    try delta run1_middle.sl.r_1
    try delta run1_middle.sl.r
    simp only [read_store_whole, load_whole, load_store_whole, readCov_store_whole]
  iapply owns_of_read (hf := ?_)
  swap; · iexact HS1
  try delta run1_middle.sl.r_1
  try delta run1_middle.sl.r
  simp only [read_store_whole, load_whole, load_store_whole, readCov_store_whole]

set_option maxHeartbeats 1000000 in
/-- The last grid point: this point's contribution is added to both accumulators, and the output block is set from their new contents. -/
theorem run1_last (hc0 : ¬isFirst1 i) (hc1 : isLater1 i) (hc2 : isLast1 i) (E : Set ℕ) (K : PUnit → sProp 𝕄) :
    iprop(ins1 c arg1 arg2 arg3 arg4 arg5 arg6 x0 x1 x2 x3 x4 x5 ∗ owns (c : Thread nD τ) arg7 fullShare d6
        ∗ owns (c : Thread nD τ) arg8 fullShare s0 ∗ owns (c : Thread nD τ) arg9 fullShare s1
        ∗ (iprop(ins1 c arg1 arg2 arg3 arg4 arg5 arg6 x0 x1 x2 x3 x4 x5 ∗ owns (c : Thread nD τ) arg7 fullShare (k1_pay3 (k1_pay1 (k1_pay9 x0 x1 x4 x5 x2) s0) x3 (k1_pay2 (k1_pay10 x0 x1 x4 x5 x2) s1) x3)
            ∗ owns (c : Thread nD τ) arg8 fullShare (k1_pay1 (k1_pay9 x0 x1 x4 x5 x2) s0) ∗ owns (c : Thread nD τ) arg9 fullShare (k1_pay2 (k1_pay10 x0 x1 x4 x5 x2) s1)) -∗ K ⟨⟩))
      ⊢ wp frame (wpE (defs₀ (F := F)) Variants.none c none) E (cc1__layer_body i arg1 harg1 arg2 harg2 arg3 harg3 arg4 harg4 arg5 harg5 arg6 harg6 arg7 harg7 arg8 harg8 arg9 harg9) K := by
  simp only [cc1__layer_body_eq_skeleton]; unfold cc1__layer_body_skel
  simp only [k1_part1_eq_skeleton]
  unfold ins1
  rw [owns_unread c harg1, owns_unread c harg2, owns_unread c harg3, owns_unread c harg4, owns_unread c harg5, owns_unread c harg6, owns_unread c harg7 _ d6]
  rw [owns_unread c harg8 _ s0, owns_unread c harg9 _ s1]
  iintro ⟨⟨H0, H1, H2, H3, H4, H5⟩, H6, HS0, HS1, Hk⟩
  sl_exec (disch := first | sl_exact hc0 | sl_exact hc1 | sl_exact hc2)
  sl_step
  iapply Hk
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [H6]
  · iapply owns_of_read (hf := ?_)
    swap; · iexact H6
    try delta run1_last.sl.v40
    try delta run1_last.sl.v36
    try delta run1_last.sl.HS1_1
    try delta run1_last.sl.HS0_1
    try delta run1_last.sl.r_1
    try delta run1_last.sl.r
    simp only [read_store_whole, load_whole, load_store_whole, readCov_store_whole]
  isplitl [HS0]
  · iapply owns_of_read (hf := ?_)
    swap; · iexact HS0
    try delta run1_last.sl.v40
    try delta run1_last.sl.v36
    try delta run1_last.sl.HS1_1
    try delta run1_last.sl.HS0_1
    try delta run1_last.sl.r_1
    try delta run1_last.sl.r
    simp only [read_store_whole, load_whole, load_store_whole, readCov_store_whole]
  iapply owns_of_read (hf := ?_)
  swap; · iexact HS1
  try delta run1_last.sl.v40
  try delta run1_last.sl.v36
  try delta run1_last.sl.HS1_1
  try delta run1_last.sl.HS0_1
  try delta run1_last.sl.r_1
  try delta run1_last.sl.r
  simp only [read_store_whole, load_whole, load_store_whole, readCov_store_whole]

/-- The third layer runs the same body as the second. -/
theorem body2_eq_body1 : cc2__layer_body (F := F) = cc1__layer_body (F := F) := rfl

end

end Cert.KernelIdeal.Layers

end
-- ==== Proof.Region1.lean ====
/- The second layer's region (custom call 1): the contents its accumulators go through, the proof data of its
   pipeline, and the body obligation at every grid point. -/
module

public import proofs.«01_k».proof.Proof.Body1
public import proofs.«01_k».proof.Proof.Carry

@[expose] public section

set_option maxRecDepth 16384

noncomputable section

namespace Cert.KernelIdeal.Layers

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents as the region finds them
variable (V : (c : Dev nD) → (b : Ref sig .tc) → Buf (Elt F) ((c : Thread nD τ).loc b))

/-- Window `w`'s block at point `t`, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The two accumulators after point `n`: set at the first point, added to at every later one. -/
def acc1 (c : Dev nD) : (n : ℕ) → n < cfg1.N → Vec F S2048x8 .f32 × Vec F S2048x8 .f32
  | 0, h => (k1_pay11 (blk1 V c 0 ⟨0, h⟩) (blk1 V c 1 ⟨0, h⟩) (blk1 V c 4 ⟨0, h⟩) (blk1 V c 5 ⟨0, h⟩) (blk1 V c 2 ⟨0, h⟩),
      k1_pay12 (blk1 V c 0 ⟨0, h⟩) (blk1 V c 1 ⟨0, h⟩) (blk1 V c 4 ⟨0, h⟩) (blk1 V c 5 ⟨0, h⟩) (blk1 V c 2 ⟨0, h⟩))
  | n + 1, h => (k1_pay1 (k1_pay9 (blk1 V c 0 ⟨n + 1, h⟩) (blk1 V c 1 ⟨n + 1, h⟩) (blk1 V c 4 ⟨n + 1, h⟩) (blk1 V c 5 ⟨n + 1, h⟩) (blk1 V c 2 ⟨n + 1, h⟩)) (acc1 c n (by omega)).1,
      k1_pay2 (k1_pay10 (blk1 V c 0 ⟨n + 1, h⟩) (blk1 V c 1 ⟨n + 1, h⟩) (blk1 V c 4 ⟨n + 1, h⟩) (blk1 V c 5 ⟨n + 1, h⟩) (blk1 V c 2 ⟨n + 1, h⟩)) (acc1 c n (by omega)).2)

/-- The two accumulators' buffers. -/
abbrev scr1_0 : Memref sig .tc .vmem S2048x8 .f32 := Memref.whole cc1_scratch0
abbrev scr1_1 : Memref sig .tc .vmem S2048x8 .f32 := Memref.whole cc1_scratch1

/-- What the body keeps between points: before the first one the scoped buffers at anything; after point `n` the
    two accumulators at `acc1 n`, the other scoped buffers at anything. -/
def kept1 (c : Dev nD) : (n : ℕ) → n ≤ cfg1.N → sProp 𝕄
  | 0, _ => Pipeline.ΦA spec1 c
  | n + 1, h => iprop(((owns (c : Thread nD τ) scr1_0 fullShare (acc1 V c n h).1 ∗ owns (c : Thread nD τ) scr1_1 fullShare (acc1 V c n h).2)
      ∗ Pipeline.scopedRestBut spec1 c [cc1_scratch0, cc1_scratch1]) ∗ ∃ r, prngReg c r)

/-- The scoped buffers at anything, the two accumulators named. -/
theorem anything1 (c : Dev nD) : (Pipeline.ΦA spec1 c : sProp 𝕄)
    = iprop((((∃ d, owns (c : Thread nD τ) scr1_0 fullShare d) ∗ (∃ d, owns (c : Thread nD τ) scr1_1 fullShare d))
      ∗ Pipeline.scopedRestBut spec1 c [cc1_scratch0, cc1_scratch1]) ∗ ∃ r, prngReg c r) := by
  unfold Pipeline.ΦA; rw [scopedRest1_split]; simp only [scr1_0, scr1_1, owns_whole]; try rfl

/-- The proof data of the region's pipeline: each input's buffer at its block, the output's at the activation of the
    accumulators, nothing owed, full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => k1_pay3 (acc1 V c t.val t.isLt).1 (blk1 V c 3 t) (acc1 V c t.val t.isLt).2 (blk1 V c 3 t)
  Φ t := kept1 V c t.val (Nat.le_of_lt_succ t.isLt)
  q _ := fullShare
  owed _ := 0

theorem dat1_A (c : Dev nD) (w : Fin cfg1.W) : (dat1 V c).A w = V c (Pipeline.arrRef spec1 w) := by dsimp only [dat1]

/-- An input's staging buffer holds its block when the body starts. -/
theorem before1 (c : Dev nD) (t : Fin cfg1.N) :
    (∀ d, (dat1 V c).before 0 t d = blk1 V c 0 t) ∧ (∀ d, (dat1 V c).before 1 t d = blk1 V c 1 t) ∧ (∀ d, (dat1 V c).before 2 t d = blk1 V c 2 t)
      ∧ (∀ d, (dat1 V c).before 3 t d = blk1 V c 3 t) ∧ (∀ d, (dat1 V c).before 4 t d = blk1 V c 4 t) ∧ (∀ d, (dat1 V c).before 5 t d = blk1 V c 5 t) := by
  refine ⟨?_, ?_, ?_, ?_, ?_, ?_⟩ <;> intro d <;>
  exact ((dat1 V c).before_in_eq_fetched _ rfl (fun _ => rfl) (fun _ _ _ => rfl)
      (fun t => by unfold Dat.blockOf; rw [dat1_A]; dsimp only [dat1]; rfl) t d).trans
    (by unfold Dat.fetched Dat.blockOf blk1; rw [dat1_A]; try rfl)

/-- At every point but the last the output is neither stored to nor written back. -/
theorem idle1 (t : Fin cfg1.N) (h : t.val ≠ 2) : cfg1.idle 6 (grid1.coords t) = true ∧ (cfg1.win 6).flush t = false :=
  (by decide +kernel : ∀ t : Fin cfg1.N, t.val ≠ 2 → cfg1.idle 6 (grid1.coords t) = true ∧ (cfg1.win 6).flush t = false) t h
theorem live1 (t : Fin cfg1.N) (h : t.val = 2) : cfg1.idle 6 (grid1.coords t) = false :=
  (by decide +kernel : ∀ t : Fin cfg1.N, t.val = 2 → cfg1.idle 6 (grid1.coords t) = false) t h

set_option maxHeartbeats 2000000 in
/-- The body at any point: from what the pipeline hands in to what it wants back. -/
theorem sound1 (c : Dev nD) (t : Fin cfg1.N) :
    iprop((dat1 V c).Φ t.castSucc ∗ (dat1 V c).owesAt () t.castSucc
      ∗ (∃ d, owns (c : Thread nD τ) (st1_0 t) fullShare ((dat1 V c).before 0 t d)) ∗ (∃ d, owns (c : Thread nD τ) (st1_1 t) fullShare ((dat1 V c).before 1 t d))
      ∗ (∃ d, owns (c : Thread nD τ) (st1_2 t) fullShare ((dat1 V c).before 2 t d)) ∗ (∃ d, owns (c : Thread nD τ) (st1_3 t) fullShare ((dat1 V c).before 3 t d))
      ∗ (∃ d, owns (c : Thread nD τ) (st1_4 t) fullShare ((dat1 V c).before 4 t d)) ∗ (∃ d, owns (c : Thread nD τ) (st1_5 t) fullShare ((dat1 V c).before 5 t d))
      ∗ (∃ d, owns (c : Thread nD τ) (st1_6 t) fullShare ((dat1 V c).before 6 t d)))
    ⊢ wp frame (wpE (defs₀ (F := F)) Variants.none c none) Set.univ (bodyAt1 t) (fun _ =>
      iprop((dat1 V c).Φ t.succ ∗ (dat1 V c).owesAt () t.succ ∗ (dat1 V c).leavesExact 0 t ∗ (dat1 V c).leavesExact 1 t ∗ (dat1 V c).leavesExact 2 t
        ∗ (dat1 V c).leavesExact 3 t ∗ (dat1 V c).leavesExact 4 t ∗ (dat1 V c).leavesExact 5 t ∗ (dat1 V c).leavesExact 6 t)) := by
  obtain ⟨b0, b1, b2, b3, b4, b5⟩ := before1 V c t
  refine Carry.assemble (wp frame (wpE (defs₀ (F := F)) Variants.none c none) Set.univ (bodyAt1 t)) _ _ _ _ _ _ _ _ _ _ _ _
    (fun d => by rw [b0]; rfl) (fun d => by rw [b1]; rfl) (fun d => by rw [b2]; rfl) (fun d => by rw [b3]; rfl) (fun d => by rw [b4]; rfl) (fun d => by rw [b5]; rfl)
    _ _ _ _ _ fun d K => ?_
  obtain ⟨n, hn⟩ := t
  obtain _ | n := n
  · rw [Dat.leavesExact_idle (dat1 V c) 6 ⟨0, hn⟩ (idle1 ⟨0, hn⟩ (by simp)).1 (idle1 ⟨0, hn⟩ (by simp)).2,
      show (dat1 V c).Φ (Fin.castSucc ⟨0, hn⟩) = _ from anything1 c]
    exact Carry.first _ _ (fun d => owns (c : Thread nD τ) (st1_6 ⟨0, hn⟩) fullShare ((dat1 V c).before 6 ⟨0, hn⟩ d)) _ _ _ _ d _ _ K fun s0 s1 K =>
      run1_first c (grid1.coords ⟨0, hn⟩) (st1_0 ⟨0, hn⟩) (hstage1_0 ((cfg1.slots ⟨0, hn⟩ 0).cast nbuf1_0)) (st1_1 ⟨0, hn⟩) (hstage1_1 ((cfg1.slots ⟨0, hn⟩ 1).cast nbuf1_1)) (st1_2 ⟨0, hn⟩) (hstage1_2 ((cfg1.slots ⟨0, hn⟩ 2).cast nbuf1_2)) (st1_3 ⟨0, hn⟩) (hstage1_3 ((cfg1.slots ⟨0, hn⟩ 3).cast nbuf1_3)) (st1_4 ⟨0, hn⟩) (hstage1_4 ((cfg1.slots ⟨0, hn⟩ 4).cast nbuf1_4)) (st1_5 ⟨0, hn⟩) (hstage1_5 ((cfg1.slots ⟨0, hn⟩ 5).cast nbuf1_5)) (st1_6 ⟨0, hn⟩) (hstage1_6 ((cfg1.slots ⟨0, hn⟩ 6).cast nbuf1_6)) scr1_0 (Memref.isWhole_whole _) scr1_1 (Memref.isWhole_whole _) (blk1 V c 0 ⟨0, hn⟩) (blk1 V c 1 ⟨0, hn⟩) (blk1 V c 2 ⟨0, hn⟩) (blk1 V c 3 ⟨0, hn⟩) (blk1 V c 4 ⟨0, hn⟩) (blk1 V c 5 ⟨0, hn⟩) _ s0 s1 ((isFirst1_iff ⟨0, hn⟩).2 rfl) (fun h => (isLater1_iff ⟨0, hn⟩).1 h rfl) (fun h => absurd ((isLast1_iff ⟨0, hn⟩).1 h) (by simp)) Set.univ K
  by_cases h2 : n + 1 = 2
  · rw [show (dat1 V c).leavesExact 6 ⟨n + 1, hn⟩ = owns (c : Thread nD τ) (st1_6 ⟨n + 1, hn⟩) fullShare ((dat1 V c).after 6 ⟨n + 1, hn⟩) from by
      unfold Dat.leavesExact; rw [live1 ⟨n + 1, hn⟩ h2]]
    exact Carry.later _ _ _ _ _ _ _ _ _ _ _ _ K fun K =>
      run1_last c (grid1.coords ⟨n + 1, hn⟩) (st1_0 ⟨n + 1, hn⟩) (hstage1_0 ((cfg1.slots ⟨n + 1, hn⟩ 0).cast nbuf1_0)) (st1_1 ⟨n + 1, hn⟩) (hstage1_1 ((cfg1.slots ⟨n + 1, hn⟩ 1).cast nbuf1_1)) (st1_2 ⟨n + 1, hn⟩) (hstage1_2 ((cfg1.slots ⟨n + 1, hn⟩ 2).cast nbuf1_2)) (st1_3 ⟨n + 1, hn⟩) (hstage1_3 ((cfg1.slots ⟨n + 1, hn⟩ 3).cast nbuf1_3)) (st1_4 ⟨n + 1, hn⟩) (hstage1_4 ((cfg1.slots ⟨n + 1, hn⟩ 4).cast nbuf1_4)) (st1_5 ⟨n + 1, hn⟩) (hstage1_5 ((cfg1.slots ⟨n + 1, hn⟩ 5).cast nbuf1_5)) (st1_6 ⟨n + 1, hn⟩) (hstage1_6 ((cfg1.slots ⟨n + 1, hn⟩ 6).cast nbuf1_6)) scr1_0 (Memref.isWhole_whole _) scr1_1 (Memref.isWhole_whole _) (blk1 V c 0 ⟨n + 1, hn⟩) (blk1 V c 1 ⟨n + 1, hn⟩) (blk1 V c 2 ⟨n + 1, hn⟩) (blk1 V c 3 ⟨n + 1, hn⟩) (blk1 V c 4 ⟨n + 1, hn⟩) (blk1 V c 5 ⟨n + 1, hn⟩) _ _ _ (fun h => absurd ((isFirst1_iff ⟨n + 1, hn⟩).1 h) (by simp)) ((isLater1_iff ⟨n + 1, hn⟩).2 (by simp)) ((isLast1_iff ⟨n + 1, hn⟩).2 h2) Set.univ K
  rw [Dat.leavesExact_idle (dat1 V c) 6 ⟨n + 1, hn⟩ (idle1 ⟨n + 1, hn⟩ h2).1 (idle1 ⟨n + 1, hn⟩ h2).2]
  exact Carry.later_forget _ _ (fun d => owns (c : Thread nD τ) (st1_6 ⟨n + 1, hn⟩) fullShare ((dat1 V c).before 6 ⟨n + 1, hn⟩ d)) _ _ _ _ d _ _ _ _ K fun K =>
    run1_middle c (grid1.coords ⟨n + 1, hn⟩) (st1_0 ⟨n + 1, hn⟩) (hstage1_0 ((cfg1.slots ⟨n + 1, hn⟩ 0).cast nbuf1_0)) (st1_1 ⟨n + 1, hn⟩) (hstage1_1 ((cfg1.slots ⟨n + 1, hn⟩ 1).cast nbuf1_1)) (st1_2 ⟨n + 1, hn⟩) (hstage1_2 ((cfg1.slots ⟨n + 1, hn⟩ 2).cast nbuf1_2)) (st1_3 ⟨n + 1, hn⟩) (hstage1_3 ((cfg1.slots ⟨n + 1, hn⟩ 3).cast nbuf1_3)) (st1_4 ⟨n + 1, hn⟩) (hstage1_4 ((cfg1.slots ⟨n + 1, hn⟩ 4).cast nbuf1_4)) (st1_5 ⟨n + 1, hn⟩) (hstage1_5 ((cfg1.slots ⟨n + 1, hn⟩ 5).cast nbuf1_5)) (st1_6 ⟨n + 1, hn⟩) (hstage1_6 ((cfg1.slots ⟨n + 1, hn⟩ 6).cast nbuf1_6)) scr1_0 (Memref.isWhole_whole _) scr1_1 (Memref.isWhole_whole _) (blk1 V c 0 ⟨n + 1, hn⟩) (blk1 V c 1 ⟨n + 1, hn⟩) (blk1 V c 2 ⟨n + 1, hn⟩) (blk1 V c 3 ⟨n + 1, hn⟩) (blk1 V c 4 ⟨n + 1, hn⟩) (blk1 V c 5 ⟨n + 1, hn⟩) _ _ _ (fun h => absurd ((isFirst1_iff ⟨n + 1, hn⟩).1 h) (by simp)) ((isLater1_iff ⟨n + 1, hn⟩).2 (by simp)) (fun h => h2 ((isLast1_iff ⟨n + 1, hn⟩).1 h)) Set.univ K

/-- The body table's row for this call is the body at the point's staging buffers. -/
theorem row1 (t : Fin cfg1.N) : defs₀ (F := F) .tc cfg1.body (cfg1.bodyArgs t (cfg1.slots t)) = bodyAt1 t := by
  unfold defs₀; rw [Defs.onTc_tc]

/-- The obligation the launch asks of the body. -/
theorem obligation1 (c : Dev nD) : BodyObligation (dat1 V c) (defs₀ (F := F)) Variants.none () Set.univ := fun t => by
  rw [bigSep_W1, bigSep_W1, row1]
  exact triple_restated (sound1 V c t) rfl .rfl fun _ => .rfl

/-- What the launch hands the region is what is kept before the first point, -/
theorem enter1 (c : Dev nD) : Pipeline.ΦA spec1 c ⊢ (dat1 V c).Φ 0 := .rfl

/-- and what is kept after the last point gives it back. -/
theorem exit1 (c : Dev nD) : (dat1 V c).Φ (Fin.last cfg1.N) ⊢ Pipeline.ΦA spec1 c := by
  rw [anything1]
  exact Carry.forget (fun d => owns (c : Thread nD τ) scr1_0 fullShare d) (fun d => owns (c : Thread nD τ) scr1_1 fullShare d) _ _ _ _

end Cert.KernelIdeal.Layers

end
-- ==== Proof.Region2.lean ====
/- The third layer's region (custom call 2), whose body is the second layer's: the contents its accumulators go through, the proof data of its
   pipeline, and the body obligation at every grid point. -/
module

public import proofs.«01_k».proof.Proof.Body1
public import proofs.«01_k».proof.Proof.Carry

@[expose] public section

set_option maxRecDepth 16384

noncomputable section

namespace Cert.KernelIdeal.Layers

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents as the region finds them
variable (V : (c : Dev nD) → (b : Ref sig .tc) → Buf (Elt F) ((c : Thread nD τ).loc b))

/-- Window `w`'s block at point `t`, read off its array as the region finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The two accumulators after point `n`: set at the first point, added to at every later one. -/
def acc2 (c : Dev nD) : (n : ℕ) → n < cfg2.N → Vec F S2048x8 .f32 × Vec F S2048x8 .f32
  | 0, h => (k1_pay11 (blk2 V c 0 ⟨0, h⟩) (blk2 V c 1 ⟨0, h⟩) (blk2 V c 4 ⟨0, h⟩) (blk2 V c 5 ⟨0, h⟩) (blk2 V c 2 ⟨0, h⟩),
      k1_pay12 (blk2 V c 0 ⟨0, h⟩) (blk2 V c 1 ⟨0, h⟩) (blk2 V c 4 ⟨0, h⟩) (blk2 V c 5 ⟨0, h⟩) (blk2 V c 2 ⟨0, h⟩))
  | n + 1, h => (k1_pay1 (k1_pay9 (blk2 V c 0 ⟨n + 1, h⟩) (blk2 V c 1 ⟨n + 1, h⟩) (blk2 V c 4 ⟨n + 1, h⟩) (blk2 V c 5 ⟨n + 1, h⟩) (blk2 V c 2 ⟨n + 1, h⟩)) (acc2 c n (by omega)).1,
      k1_pay2 (k1_pay10 (blk2 V c 0 ⟨n + 1, h⟩) (blk2 V c 1 ⟨n + 1, h⟩) (blk2 V c 4 ⟨n + 1, h⟩) (blk2 V c 5 ⟨n + 1, h⟩) (blk2 V c 2 ⟨n + 1, h⟩)) (acc2 c n (by omega)).2)

/-- The two accumulators' buffers. -/
abbrev scr2_0 : Memref sig .tc .vmem S2048x8 .f32 := Memref.whole cc2_scratch0
abbrev scr2_1 : Memref sig .tc .vmem S2048x8 .f32 := Memref.whole cc2_scratch1

/-- What the body keeps between points: before the first one the scoped buffers at anything; after point `n` the
    two accumulators at `acc2 n`, the other scoped buffers at anything. -/
def kept2 (c : Dev nD) : (n : ℕ) → n ≤ cfg2.N → sProp 𝕄
  | 0, _ => Pipeline.ΦA spec2 c
  | n + 1, h => iprop(((owns (c : Thread nD τ) scr2_0 fullShare (acc2 V c n h).1 ∗ owns (c : Thread nD τ) scr2_1 fullShare (acc2 V c n h).2)
      ∗ Pipeline.scopedRestBut spec2 c [cc2_scratch0, cc2_scratch1]) ∗ ∃ r, prngReg c r)

/-- The scoped buffers at anything, the two accumulators named. -/
theorem anything2 (c : Dev nD) : (Pipeline.ΦA spec2 c : sProp 𝕄)
    = iprop((((∃ d, owns (c : Thread nD τ) scr2_0 fullShare d) ∗ (∃ d, owns (c : Thread nD τ) scr2_1 fullShare d))
      ∗ Pipeline.scopedRestBut spec2 c [cc2_scratch0, cc2_scratch1]) ∗ ∃ r, prngReg c r) := by
  unfold Pipeline.ΦA; rw [scopedRest2_split]; simp only [scr2_0, scr2_1, owns_whole]; try rfl

/-- The proof data of the region's pipeline: each input's buffer at its block, the output's at the activation of the
    accumulators, nothing owed, full shares. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => blk2 V c 3 t
    | ⟨4, _⟩ => blk2 V c 4 t
    | ⟨5, _⟩ => blk2 V c 5 t
    | ⟨6, _⟩ => k1_pay3 (acc2 V c t.val t.isLt).1 (blk2 V c 3 t) (acc2 V c t.val t.isLt).2 (blk2 V c 3 t)
  Φ t := kept2 V c t.val (Nat.le_of_lt_succ t.isLt)
  q _ := fullShare
  owed _ := 0

theorem dat2_A (c : Dev nD) (w : Fin cfg2.W) : (dat2 V c).A w = V c (Pipeline.arrRef spec2 w) := by dsimp only [dat2]

/-- An input's staging buffer holds its block when the body starts. -/
theorem before2 (c : Dev nD) (t : Fin cfg2.N) :
    (∀ d, (dat2 V c).before 0 t d = blk2 V c 0 t) ∧ (∀ d, (dat2 V c).before 1 t d = blk2 V c 1 t) ∧ (∀ d, (dat2 V c).before 2 t d = blk2 V c 2 t)
      ∧ (∀ d, (dat2 V c).before 3 t d = blk2 V c 3 t) ∧ (∀ d, (dat2 V c).before 4 t d = blk2 V c 4 t) ∧ (∀ d, (dat2 V c).before 5 t d = blk2 V c 5 t) := by
  refine ⟨?_, ?_, ?_, ?_, ?_, ?_⟩ <;> intro d <;>
  exact ((dat2 V c).before_in_eq_fetched _ rfl (fun _ => rfl) (fun _ _ _ => rfl)
      (fun t => by unfold Dat.blockOf; rw [dat2_A]; dsimp only [dat2]; rfl) t d).trans
    (by unfold Dat.fetched Dat.blockOf blk2; rw [dat2_A]; try rfl)

/-- At every point but the last the output is neither stored to nor written back. -/
theorem idle2 (t : Fin cfg2.N) (h : t.val ≠ 2) : cfg2.idle 6 (grid2.coords t) = true ∧ (cfg2.win 6).flush t = false :=
  (by decide +kernel : ∀ t : Fin cfg2.N, t.val ≠ 2 → cfg2.idle 6 (grid2.coords t) = true ∧ (cfg2.win 6).flush t = false) t h
theorem live2 (t : Fin cfg2.N) (h : t.val = 2) : cfg2.idle 6 (grid2.coords t) = false :=
  (by decide +kernel : ∀ t : Fin cfg2.N, t.val = 2 → cfg2.idle 6 (grid2.coords t) = false) t h

set_option maxHeartbeats 2000000 in
/-- The body at any point: from what the pipeline hands in to what it wants back. -/
theorem sound2 (c : Dev nD) (t : Fin cfg2.N) :
    iprop((dat2 V c).Φ t.castSucc ∗ (dat2 V c).owesAt () t.castSucc
      ∗ (∃ d, owns (c : Thread nD τ) (st2_0 t) fullShare ((dat2 V c).before 0 t d)) ∗ (∃ d, owns (c : Thread nD τ) (st2_1 t) fullShare ((dat2 V c).before 1 t d))
      ∗ (∃ d, owns (c : Thread nD τ) (st2_2 t) fullShare ((dat2 V c).before 2 t d)) ∗ (∃ d, owns (c : Thread nD τ) (st2_3 t) fullShare ((dat2 V c).before 3 t d))
      ∗ (∃ d, owns (c : Thread nD τ) (st2_4 t) fullShare ((dat2 V c).before 4 t d)) ∗ (∃ d, owns (c : Thread nD τ) (st2_5 t) fullShare ((dat2 V c).before 5 t d))
      ∗ (∃ d, owns (c : Thread nD τ) (st2_6 t) fullShare ((dat2 V c).before 6 t d)))
    ⊢ wp frame (wpE (defs₀ (F := F)) Variants.none c none) Set.univ (bodyAt2 t) (fun _ =>
      iprop((dat2 V c).Φ t.succ ∗ (dat2 V c).owesAt () t.succ ∗ (dat2 V c).leavesExact 0 t ∗ (dat2 V c).leavesExact 1 t ∗ (dat2 V c).leavesExact 2 t
        ∗ (dat2 V c).leavesExact 3 t ∗ (dat2 V c).leavesExact 4 t ∗ (dat2 V c).leavesExact 5 t ∗ (dat2 V c).leavesExact 6 t)) := by
  obtain ⟨b0, b1, b2, b3, b4, b5⟩ := before2 V c t
  unfold bodyAt2; rw [body2_eq_body1]
  refine Carry.assemble (wp frame (wpE (defs₀ (F := F)) Variants.none c none) Set.univ _) _ _ _ _ _ _ _ _ _ _ _ _
    (fun d => by rw [b0]; rfl) (fun d => by rw [b1]; rfl) (fun d => by rw [b2]; rfl) (fun d => by rw [b3]; rfl) (fun d => by rw [b4]; rfl) (fun d => by rw [b5]; rfl)
    _ _ _ _ _ fun d K => ?_
  obtain ⟨n, hn⟩ := t
  obtain _ | n := n
  · rw [Dat.leavesExact_idle (dat2 V c) 6 ⟨0, hn⟩ (idle2 ⟨0, hn⟩ (by simp)).1 (idle2 ⟨0, hn⟩ (by simp)).2,
      show (dat2 V c).Φ (Fin.castSucc ⟨0, hn⟩) = _ from anything2 c]
    exact Carry.first _ _ (fun d => owns (c : Thread nD τ) (st2_6 ⟨0, hn⟩) fullShare ((dat2 V c).before 6 ⟨0, hn⟩ d)) _ _ _ _ d _ _ K fun s0 s1 K =>
      run1_first c (grid2.coords ⟨0, hn⟩) (st2_0 ⟨0, hn⟩) (hstage2_0 ((cfg2.slots ⟨0, hn⟩ 0).cast nbuf2_0)) (st2_1 ⟨0, hn⟩) (hstage2_1 ((cfg2.slots ⟨0, hn⟩ 1).cast nbuf2_1)) (st2_2 ⟨0, hn⟩) (hstage2_2 ((cfg2.slots ⟨0, hn⟩ 2).cast nbuf2_2)) (st2_3 ⟨0, hn⟩) (hstage2_3 ((cfg2.slots ⟨0, hn⟩ 3).cast nbuf2_3)) (st2_4 ⟨0, hn⟩) (hstage2_4 ((cfg2.slots ⟨0, hn⟩ 4).cast nbuf2_4)) (st2_5 ⟨0, hn⟩) (hstage2_5 ((cfg2.slots ⟨0, hn⟩ 5).cast nbuf2_5)) (st2_6 ⟨0, hn⟩) (hstage2_6 ((cfg2.slots ⟨0, hn⟩ 6).cast nbuf2_6)) scr2_0 (Memref.isWhole_whole _) scr2_1 (Memref.isWhole_whole _) (blk2 V c 0 ⟨0, hn⟩) (blk2 V c 1 ⟨0, hn⟩) (blk2 V c 2 ⟨0, hn⟩) (blk2 V c 3 ⟨0, hn⟩) (blk2 V c 4 ⟨0, hn⟩) (blk2 V c 5 ⟨0, hn⟩) _ s0 s1 ((isFirst1_iff ⟨0, hn⟩).2 rfl) (fun h => (isLater1_iff ⟨0, hn⟩).1 h rfl) (fun h => absurd ((isLast1_iff ⟨0, hn⟩).1 h) (by simp)) Set.univ K
  by_cases h2 : n + 1 = 2
  · rw [show (dat2 V c).leavesExact 6 ⟨n + 1, hn⟩ = owns (c : Thread nD τ) (st2_6 ⟨n + 1, hn⟩) fullShare ((dat2 V c).after 6 ⟨n + 1, hn⟩) from by
      unfold Dat.leavesExact; rw [live2 ⟨n + 1, hn⟩ h2]]
    exact Carry.later _ _ _ _ _ _ _ _ _ _ _ _ K fun K =>
      run1_last c (grid2.coords ⟨n + 1, hn⟩) (st2_0 ⟨n + 1, hn⟩) (hstage2_0 ((cfg2.slots ⟨n + 1, hn⟩ 0).cast nbuf2_0)) (st2_1 ⟨n + 1, hn⟩) (hstage2_1 ((cfg2.slots ⟨n + 1, hn⟩ 1).cast nbuf2_1)) (st2_2 ⟨n + 1, hn⟩) (hstage2_2 ((cfg2.slots ⟨n + 1, hn⟩ 2).cast nbuf2_2)) (st2_3 ⟨n + 1, hn⟩) (hstage2_3 ((cfg2.slots ⟨n + 1, hn⟩ 3).cast nbuf2_3)) (st2_4 ⟨n + 1, hn⟩) (hstage2_4 ((cfg2.slots ⟨n + 1, hn⟩ 4).cast nbuf2_4)) (st2_5 ⟨n + 1, hn⟩) (hstage2_5 ((cfg2.slots ⟨n + 1, hn⟩ 5).cast nbuf2_5)) (st2_6 ⟨n + 1, hn⟩) (hstage2_6 ((cfg2.slots ⟨n + 1, hn⟩ 6).cast nbuf2_6)) scr2_0 (Memref.isWhole_whole _) scr2_1 (Memref.isWhole_whole _) (blk2 V c 0 ⟨n + 1, hn⟩) (blk2 V c 1 ⟨n + 1, hn⟩) (blk2 V c 2 ⟨n + 1, hn⟩) (blk2 V c 3 ⟨n + 1, hn⟩) (blk2 V c 4 ⟨n + 1, hn⟩) (blk2 V c 5 ⟨n + 1, hn⟩) _ _ _ (fun h => absurd ((isFirst1_iff ⟨n + 1, hn⟩).1 h) (by simp)) ((isLater1_iff ⟨n + 1, hn⟩).2 (by simp)) ((isLast1_iff ⟨n + 1, hn⟩).2 h2) Set.univ K
  rw [Dat.leavesExact_idle (dat2 V c) 6 ⟨n + 1, hn⟩ (idle2 ⟨n + 1, hn⟩ h2).1 (idle2 ⟨n + 1, hn⟩ h2).2]
  exact Carry.later_forget _ _ (fun d => owns (c : Thread nD τ) (st2_6 ⟨n + 1, hn⟩) fullShare ((dat2 V c).before 6 ⟨n + 1, hn⟩ d)) _ _ _ _ d _ _ _ _ K fun K =>
    run1_middle c (grid2.coords ⟨n + 1, hn⟩) (st2_0 ⟨n + 1, hn⟩) (hstage2_0 ((cfg2.slots ⟨n + 1, hn⟩ 0).cast nbuf2_0)) (st2_1 ⟨n + 1, hn⟩) (hstage2_1 ((cfg2.slots ⟨n + 1, hn⟩ 1).cast nbuf2_1)) (st2_2 ⟨n + 1, hn⟩) (hstage2_2 ((cfg2.slots ⟨n + 1, hn⟩ 2).cast nbuf2_2)) (st2_3 ⟨n + 1, hn⟩) (hstage2_3 ((cfg2.slots ⟨n + 1, hn⟩ 3).cast nbuf2_3)) (st2_4 ⟨n + 1, hn⟩) (hstage2_4 ((cfg2.slots ⟨n + 1, hn⟩ 4).cast nbuf2_4)) (st2_5 ⟨n + 1, hn⟩) (hstage2_5 ((cfg2.slots ⟨n + 1, hn⟩ 5).cast nbuf2_5)) (st2_6 ⟨n + 1, hn⟩) (hstage2_6 ((cfg2.slots ⟨n + 1, hn⟩ 6).cast nbuf2_6)) scr2_0 (Memref.isWhole_whole _) scr2_1 (Memref.isWhole_whole _) (blk2 V c 0 ⟨n + 1, hn⟩) (blk2 V c 1 ⟨n + 1, hn⟩) (blk2 V c 2 ⟨n + 1, hn⟩) (blk2 V c 3 ⟨n + 1, hn⟩) (blk2 V c 4 ⟨n + 1, hn⟩) (blk2 V c 5 ⟨n + 1, hn⟩) _ _ _ (fun h => absurd ((isFirst1_iff ⟨n + 1, hn⟩).1 h) (by simp)) ((isLater1_iff ⟨n + 1, hn⟩).2 (by simp)) (fun h => h2 ((isLast1_iff ⟨n + 1, hn⟩).1 h)) Set.univ K

/-- The body table's row for this call is the body at the point's staging buffers. -/
theorem row2 (t : Fin cfg2.N) : defs₀ (F := F) .tc cfg2.body (cfg2.bodyArgs t (cfg2.slots t)) = bodyAt2 t := by
  unfold defs₀; rw [Defs.onTc_tc]

/-- The obligation the launch asks of the body. -/
theorem obligation2 (c : Dev nD) : BodyObligation (dat2 V c) (defs₀ (F := F)) Variants.none () Set.univ := fun t => by
  rw [bigSep_W2, bigSep_W2, row2]
  exact triple_restated (sound2 V c t) rfl .rfl fun _ => .rfl

/-- What the launch hands the region is what is kept before the first point, -/
theorem enter2 (c : Dev nD) : Pipeline.ΦA spec2 c ⊢ (dat2 V c).Φ 0 := .rfl

/-- and what is kept after the last point gives it back. -/
theorem exit2 (c : Dev nD) : (dat2 V c).Φ (Fin.last cfg2.N) ⊢ Pipeline.ΦA spec2 c := by
  rw [anything2]
  exact Carry.forget (fun d => owns (c : Thread nD τ) scr2_0 fullShare d) (fun d => owns (c : Thread nD τ) scr2_1 fullShare d) _ _ _ _

end Cert.KernelIdeal.Layers

end
-- ==== Proof.Body3.lean ====
/- The attention tail's body, run at its one grid point: what it leaves in its output block, as the skeleton's
   payloads over what it was handed. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.WholeAccess
public import Idealize.ShloMosaic.Lib.Ring
public import Idealize.ShloMosaic.Lib.WholeRead
public import Idealize.ShloMosaic.Lib.Tactic
public import Idealize.ShloMosaic.Lib.WordCmp

@[expose] public section

set_option maxRecDepth 16384

noncomputable section

namespace Cert.KernelIdeal.Layers

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A filter table has an entry at every row and every tap. -/
theorem tap_inb (r : Fin 2) (k : Fin 7) : ∀ a, (![r.val, k.val] : Fin 2 → ℕ) a + S1x1.size a ≤ S2x7.size a := by
  intro a
  fin_cases a
  · show r.val + 1 ≤ 2; omega
  · show k.val + 1 ≤ 7; omega

/-- The position of tap `k` of row `r` in the table of filter taps. -/
def tapAt (r : Fin 2) (k : Fin 7) : S2x7.Idx :=
  (Rect.unit (s := S2x7) ![r.val, k.val] S1x1.size (tap_inb r k)).toLoadRect.idx (Shape.Idx.first (numel1_S1x1.symm ▸ Nat.one_pos))

theorem tapAt_row (r : Fin 2) (k : Fin 7) : (tapAt r k 0).val = r.val := by
  simp [tapAt, Rect.toLoadRect, LoadRect.idx, Rect.unit, Shape.Idx.first]
theorem tapAt_tap (r : Fin 2) (k : Fin 7) : (tapAt r k 1).val = k.val := by
  simp [tapAt, Rect.toLoadRect, LoadRect.idx, Rect.unit, Shape.Idx.first]

section
variable (c : Dev nD) (arg0 : Memref sig .tc .vmem S2048x16 .f32) (harg0 : arg0.IsWhole) (arg1 : Memref sig .tc .vmem S1x16 .f32) (harg1 : arg1.IsWhole) (arg2 : Memref sig .tc .vmem S1x16 .f32) (harg2 : arg2.IsWhole) (arg3 : Memref sig .tc .smem S2x7 .f32) (harg3 : arg3.IsWhole) (arg4 : Memref sig .tc .vmem S16x2 .f32) (harg4 : arg4.IsWhole) (arg5 : Memref sig .tc .vmem S1x2 .f32) (harg5 : arg5.IsWhole) (arg6 : Memref sig .tc .vmem S2048x2 .f32) (harg6 : arg6.IsWhole)
  (x0 : Vec F S2048x16 .f32) (x1 x2 : Vec F S1x16 .f32) (x3 : Vec F S2x7 .f32) (x4 : Vec F S16x2 .f32) (x5 : Vec F S1x2 .f32) (d6 : Vec F S2048x2 .f32)

/-- The six input blocks of the tail, each owned at its contents. -/
def ins3 : sProp 𝕄 :=
  iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5)

/-- The output block of the tail, over its six input blocks: the payloads of its three parts put together. -/
def tailBlock : Vec F S2048x2 .f32 :=
  k3_pay1 (k3_pay2 x0 x1 x2) (k3_pay4 x0 x1 x2) (k3_pay5 x0 x1 x2)
    (k3_pay7 (k3_pay4 x0 x1 x2) (k3_pay5 x0 x1 x2) (k3_pay6 x0 x1 x2 (x3 (tapAt 0 0)) (x3 (tapAt 1 0)))
      (x3 (tapAt 0 1)) (x3 (tapAt 1 1)) (x3 (tapAt 0 2)) (x3 (tapAt 1 2)) (x3 (tapAt 0 3)) (x3 (tapAt 1 3)) (x3 (tapAt 0 4)) (x3 (tapAt 1 4)))
    (x3 (tapAt 0 5)) (k3_pay8 (k3_pay4 x0 x1 x2)) (x3 (tapAt 1 5)) (x3 (tapAt 0 6)) (x3 (tapAt 1 6)) x4 x5

set_option maxHeartbeats 1000000 in
/-- The one grid point of the tail: the output block is set to `tailBlock` of the input blocks. -/
theorem run3 (E : Set ℕ) (K : PUnit → sProp 𝕄) :
    iprop(ins3 c arg0 arg1 arg2 arg3 arg4 arg5 x0 x1 x2 x3 x4 x5 ∗ owns (c : Thread nD τ) arg6 fullShare d6
        ∗ (iprop(ins3 c arg0 arg1 arg2 arg3 arg4 arg5 x0 x1 x2 x3 x4 x5
            ∗ owns (c : Thread nD τ) arg6 fullShare (tailBlock x0 x1 x2 x3 x4 x5)) -∗ K ⟨⟩))
      ⊢ wp frame (wpE (defs₀ (F := F)) Variants.none c none) E (cc3__tail_body arg0 harg0 arg1 harg1 arg2 harg2 arg3 harg3 arg4 harg4 arg5 harg5 arg6 harg6) K := by
  simp only [cc3__tail_body_eq_skeleton]; unfold cc3__tail_body_skel
  simp only [k3_part1_eq_skeleton, k3_part2_eq_skeleton]
  unfold ins3
  rw [owns_unread c harg0, owns_unread c harg1, owns_unread c harg2, owns_unread c harg3, owns_unread c harg4, owns_unread c harg5, owns_unread c harg6 _ d6]
  iintro ⟨⟨H0, H1, H2, H3, H4, H5⟩, H6, Hk⟩
  sl_exec
  sl_step
  iapply Hk
  isplitl [H0 H1 H2 H3 H4 H5]
  · isplitl [H0]; · iexact H0
    isplitl [H1]; · iexact H1
    isplitl [H2]; · iexact H2
    isplitl [H3]; · iexact H3
    isplitl [H4]; · iexact H4
    iexact H5
  iapply owns_of_read (hf := ?_)
  swap; · iexact H6
  unfold tailBlock
  try delta run3.sl.r_20
  try delta run3.sl.r_19
  try delta run3.sl.r_18
  try delta run3.sl.r_17
  try delta run3.sl.r_16
  try delta run3.sl.r_15
  try delta run3.sl.r_14
  try delta run3.sl.r_13
  try delta run3.sl.r_12
  try delta run3.sl.r_11
  try delta run3.sl.r_10
  try delta run3.sl.r_9
  try delta run3.sl.r_8
  try delta run3.sl.r_7
  try delta run3.sl.r_6
  try delta run3.sl.r_5
  try delta run3.sl.r_4
  try delta run3.sl.r_3
  try delta run3.sl.r_2
  try delta run3.sl.r_1
  try delta run3.sl.r
  simp only [read_store_whole, load_whole, Memref.IsWhole.readAt_unread]
  rfl

end

end Cert.KernelIdeal.Layers

end
-- ==== Proof.Region3.lean ====
/- The tail's region (custom call 3): the proof data of its one-point pipeline and the body obligation. -/
module

public import proofs.«01_k».proof.Proof.Body3
public import proofs.«01_k».proof.Proof.Carry

@[expose] public section

set_option maxRecDepth 16384

noncomputable section

namespace Cert.KernelIdeal.Layers

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents as the region finds them
variable (V : (c : Dev nD) → (b : Ref sig .tc) → Buf (Elt F) ((c : Thread nD τ).loc b))

/-- Window `w`'s block at the region's point, read off its array as the region finds it. -/
def blk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The proof data of the region's pipeline: each input's buffer at its block, the output's at the tail of the blocks,
    the scoped buffers kept at anything, nothing owed, full shares. -/
def dat3 (c : Dev nD) : Dat τ (Elt F) Unit ℕ (UR sig nD τ) ℕ cfg3 c where
  A w := V c (Pipeline.arrRef spec3 w)
  after w t := match w with
    | ⟨0, _⟩ => blk3 V c 0 t
    | ⟨1, _⟩ => blk3 V c 1 t
    | ⟨2, _⟩ => blk3 V c 2 t
    | ⟨3, _⟩ => blk3 V c 3 t
    | ⟨4, _⟩ => blk3 V c 4 t
    | ⟨5, _⟩ => blk3 V c 5 t
    | ⟨6, _⟩ => tailBlock (blk3 V c 0 t) (blk3 V c 1 t) (blk3 V c 2 t) (blk3 V c 3 t) (blk3 V c 4 t) (blk3 V c 5 t)
  Φ _ := Pipeline.ΦA spec3 c
  q _ := fullShare
  owed _ := 0

theorem dat3_A (c : Dev nD) (w : Fin cfg3.W) : (dat3 V c).A w = V c (Pipeline.arrRef spec3 w) := by dsimp only [dat3]

/-- An input's staging buffer holds its block when the body starts. -/
theorem before3 (c : Dev nD) (t : Fin cfg3.N) :
    (∀ d, (dat3 V c).before 0 t d = blk3 V c 0 t) ∧ (∀ d, (dat3 V c).before 1 t d = blk3 V c 1 t) ∧ (∀ d, (dat3 V c).before 2 t d = blk3 V c 2 t)
      ∧ (∀ d, (dat3 V c).before 3 t d = blk3 V c 3 t) ∧ (∀ d, (dat3 V c).before 4 t d = blk3 V c 4 t) ∧ (∀ d, (dat3 V c).before 5 t d = blk3 V c 5 t) := by
  refine ⟨?_, ?_, ?_, ?_, ?_, ?_⟩ <;> intro d <;>
  exact ((dat3 V c).before_in_eq_fetched _ rfl (fun _ => rfl) (fun _ _ _ => rfl)
      (fun t => by unfold Dat.blockOf; rw [dat3_A]; dsimp only [dat3]; rfl) t d).trans
    (by unfold Dat.fetched Dat.blockOf blk3; rw [dat3_A]; try rfl)

set_option maxHeartbeats 2000000 in
/-- The body at any point: from what the pipeline hands in to what it wants back. -/
theorem sound3 (c : Dev nD) (t : Fin cfg3.N) :
    iprop((dat3 V c).Φ t.castSucc ∗ (dat3 V c).owesAt () t.castSucc
      ∗ (∃ d, owns (c : Thread nD τ) (st3_0 t) fullShare ((dat3 V c).before 0 t d)) ∗ (∃ d, owns (c : Thread nD τ) (st3_1 t) fullShare ((dat3 V c).before 1 t d))
      ∗ (∃ d, owns (c : Thread nD τ) (st3_2 t) fullShare ((dat3 V c).before 2 t d)) ∗ (∃ d, owns (c : Thread nD τ) (st3_3 t) fullShare ((dat3 V c).before 3 t d))
      ∗ (∃ d, owns (c : Thread nD τ) (st3_4 t) fullShare ((dat3 V c).before 4 t d)) ∗ (∃ d, owns (c : Thread nD τ) (st3_5 t) fullShare ((dat3 V c).before 5 t d))
      ∗ (∃ d, owns (c : Thread nD τ) (st3_6 t) fullShare ((dat3 V c).before 6 t d)))
    ⊢ wp frame (wpE (defs₀ (F := F)) Variants.none c none) Set.univ (bodyAt3 t) (fun _ =>
      iprop((dat3 V c).Φ t.succ ∗ (dat3 V c).owesAt () t.succ ∗ (dat3 V c).leavesExact 0 t ∗ (dat3 V c).leavesExact 1 t ∗ (dat3 V c).leavesExact 2 t
        ∗ (dat3 V c).leavesExact 3 t ∗ (dat3 V c).leavesExact 4 t ∗ (dat3 V c).leavesExact 5 t ∗ (dat3 V c).leavesExact 6 t)) := by
  obtain ⟨b0, b1, b2, b3, b4, b5⟩ := before3 V c t
  refine Carry.assemble (wp frame (wpE (defs₀ (F := F)) Variants.none c none) Set.univ (bodyAt3 t)) _ _ _ _ _ _ _ _ _ _ _ _
    (fun d => by rw [b0]; rfl) (fun d => by rw [b1]; rfl) (fun d => by rw [b2]; rfl) (fun d => by rw [b3]; rfl) (fun d => by rw [b4]; rfl) (fun d => by rw [b5]; rfl)
    _ _ _ _ _ fun d K => ?_
  rw [show iprop((dat3 V c).leavesExact 0 t ∗ (dat3 V c).leavesExact 1 t ∗ (dat3 V c).leavesExact 2 t ∗ (dat3 V c).leavesExact 3 t ∗ (dat3 V c).leavesExact 4 t ∗ (dat3 V c).leavesExact 5 t)
      = ins3 c (st3_0 t) (st3_1 t) (st3_2 t) (st3_3 t) (st3_4 t) (st3_5 t) (blk3 V c 0 t) (blk3 V c 1 t) (blk3 V c 2 t) (blk3 V c 3 t) (blk3 V c 4 t) (blk3 V c 5 t) from rfl,
    show (dat3 V c).leavesExact 6 t = owns (c : Thread nD τ) (st3_6 t) fullShare (tailBlock (blk3 V c 0 t) (blk3 V c 1 t) (blk3 V c 2 t) (blk3 V c 3 t) (blk3 V c 4 t) (blk3 V c 5 t)) from rfl,
    show (dat3 V c).Φ t.succ = (dat3 V c).Φ t.castSucc from rfl]
  iintro ⟨Hi, H6, HΦ, Hk⟩
  iapply (run3 c (st3_0 t) (hstage3_0 0) (st3_1 t) (hstage3_1 0) (st3_2 t) (hstage3_2 0) (st3_3 t) (hstage3_3 0) (st3_4 t) (hstage3_4 0) (st3_5 t) (hstage3_5 0) (st3_6 t) (hstage3_6 0) (blk3 V c 0 t) (blk3 V c 1 t) (blk3 V c 2 t) (blk3 V c 3 t) (blk3 V c 4 t) (blk3 V c 5 t) ((dat3 V c).before 6 t d) Set.univ K)
  isplitl [Hi]; · iexact Hi
  isplitl [H6]; · iexact H6
  iintro ⟨Hi, H6⟩
  iapply Hk
  isplitl [Hi]; · iexact Hi
  isplitl [H6]; · iexact H6
  iexact HΦ

/-- The body table's row for this call is the body at the point's staging buffers. -/
theorem row3 (t : Fin cfg3.N) : defs₀ (F := F) .tc cfg3.body (cfg3.bodyArgs t (cfg3.slots t)) = bodyAt3 t := by
  unfold defs₀; rw [Defs.onTc_tc]

/-- The obligation the launch asks of the body. -/
theorem obligation3 (c : Dev nD) : BodyObligation (dat3 V c) (defs₀ (F := F)) Variants.none () Set.univ := fun t => by
  rw [bigSep_W3, bigSep_W3, row3]
  exact triple_restated (sound3 V c t) rfl .rfl fun _ => .rfl

end Cert.KernelIdeal.Layers

end
-- ==== Proof.WholeRun.lean ====
/- The run of @main: the contents of the buffers at each boundary between its host stretches and its pallas_calls, the
   four calls' proof data at those contents, and what every unscoped buffer holds at the end. -/
module

public import proofs.«01_k».proof.Proof.Segment
public import proofs.«01_k».proof.Proof.Region0
public import proofs.«01_k».proof.Proof.Region1
public import proofs.«01_k».proof.Proof.Region2
public import proofs.«01_k».proof.Proof.Region3

@[expose] public section

set_option maxRecDepth 16384

noncomputable section

namespace Cert.KernelIdeal.Layers

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Contents of the buffers, read at the TensorCore's references. -/
abbrev atRefs (W : Dev nD → Valuation τ sig (Elt F)) : (c : Dev nD) → (b : Ref sig .tc) → Buf (Elt F) ((c : Thread nD τ).loc b) := fun c b => W c b

/-! ## The contents at each boundary -/

/-- At launch; -/
abbrev W0 : Dev nD → Valuation τ sig (Elt F) := fun c b => m ((c : Dev nD), b)
/-- after the first host stretch, where call 0 is entered; -/
abbrev W1 : Dev nD → Valuation τ sig (Elt F) := fun c => StableHlo.after hostOps0 (W0 m c)
/-- where call 0 is left; -/
def W2 : Dev nD → Valuation τ sig (Elt F) := leave 0 (fun c => dat0 (atRefs (W1 m)) c) (W1 m)
/-- where call 1 is entered; -/
abbrev W3 : Dev nD → Valuation τ sig (Elt F) := fun c => StableHlo.after hostOps1 (W2 m c)
/-- where call 1 is left; -/
def W4 : Dev nD → Valuation τ sig (Elt F) := leave 1 (fun c => dat1 (atRefs (W3 m)) c) (W3 m)
/-- where call 2 is entered; -/
abbrev W5 : Dev nD → Valuation τ sig (Elt F) := fun c => StableHlo.after hostOps2 (W4 m c)
/-- where call 2 is left; -/
def W6 : Dev nD → Valuation τ sig (Elt F) := leave 2 (fun c => dat2 (atRefs (W5 m)) c) (W5 m)
/-- where call 3 is entered; -/
abbrev W7 : Dev nD → Valuation τ sig (Elt F) := fun c => StableHlo.after hostOps3 (W6 m c)
/-- where call 3 is left; -/
def W8 : Dev nD → Valuation τ sig (Elt F) := leave 3 (fun c => dat3 (atRefs (W7 m)) c) (W7 m)
/-- and at the return. -/
abbrev W9 : Dev nD → Valuation τ sig (Elt F) := fun c => StableHlo.after hostOps4 (W8 m c)

/-- The four calls' proof data, each at the contents its call is entered with. -/
def data : (p : Fin 4) → Data F p
  | ⟨0, _⟩ => fun c => dat0 (atRefs (W1 m)) c
  | ⟨1, _⟩ => fun c => dat1 (atRefs (W3 m)) c
  | ⟨2, _⟩ => fun c => dat2 (atRefs (W5 m)) c
  | ⟨3, _⟩ => fun c => dat3 (atRefs (W7 m)) c

/-! ## What each item leaves unchanged -/

theorem W1_of (c : Dev nD) (r : Ref sig .tc) (h : r ∉ hostOps0_W) : W1 m c (Proc.devRef .tc r) = W0 m c (Proc.devRef .tc r) :=
  StableHlo.after_of_writes_sub hostOps0 _ hostOps0_writes h
theorem W2_of (c : Dev nD) (r : Ref sig .tc) (h : ∀ w : Fin cfg0.W, Pipeline.arrRef spec0 w = r → (cfg0.win w).isOut = false) :
    W2 m c (Proc.devRef .tc r) = W1 m c (Proc.devRef .tc r) := leave_of 0 _ (W1 m) launch0 (dat0_A (atRefs (W1 m))) c r h
theorem W3_of (c : Dev nD) (r : Ref sig .tc) (h : r ∉ hostOps1_W) : W3 m c (Proc.devRef .tc r) = W2 m c (Proc.devRef .tc r) :=
  StableHlo.after_of_writes_sub hostOps1 _ hostOps1_writes h
theorem W4_of (c : Dev nD) (r : Ref sig .tc) (h : ∀ w : Fin cfg1.W, Pipeline.arrRef spec1 w = r → (cfg1.win w).isOut = false) :
    W4 m c (Proc.devRef .tc r) = W3 m c (Proc.devRef .tc r) := leave_of 1 _ (W3 m) launch1 (dat1_A (atRefs (W3 m))) c r h
theorem W5_of (c : Dev nD) (r : Ref sig .tc) (h : r ∉ hostOps2_W) : W5 m c (Proc.devRef .tc r) = W4 m c (Proc.devRef .tc r) :=
  StableHlo.after_of_writes_sub hostOps2 _ hostOps2_writes h
theorem W6_of (c : Dev nD) (r : Ref sig .tc) (h : ∀ w : Fin cfg2.W, Pipeline.arrRef spec2 w = r → (cfg2.win w).isOut = false) :
    W6 m c (Proc.devRef .tc r) = W5 m c (Proc.devRef .tc r) := leave_of 2 _ (W5 m) launch2 (dat2_A (atRefs (W5 m))) c r h
theorem W7_of (c : Dev nD) (r : Ref sig .tc) (h : r ∉ hostOps3_W) : W7 m c (Proc.devRef .tc r) = W6 m c (Proc.devRef .tc r) :=
  StableHlo.after_of_writes_sub hostOps3 _ hostOps3_writes h
theorem W8_of (c : Dev nD) (r : Ref sig .tc) (h : ∀ w : Fin cfg3.W, Pipeline.arrRef spec3 w = r → (cfg3.win w).isOut = false) :
    W8 m c (Proc.devRef .tc r) = W7 m c (Proc.devRef .tc r) := leave_of 3 _ (W7 m) launch3 (dat3_A (atRefs (W7 m))) c r h
theorem W9_of (c : Dev nD) (r : Ref sig .tc) (h : r ∉ hostOps4_W) : W9 m c (Proc.devRef .tc r) = W8 m c (Proc.devRef .tc r) :=
  StableHlo.after_of_writes_sub hostOps4 _ hostOps4_writes h

/-- The output array of each call, where it is left. -/
theorem W2_out (c : Dev nD) : W2 m c (Proc.devRef .tc (Pipeline.arrRef spec0 6)) = (dat0 (atRefs (W1 m)) c).arrAt 6 cfg0.N := leave_arr 0 _ (W1 m) launch0 c 6
theorem W4_out (c : Dev nD) : W4 m c (Proc.devRef .tc (Pipeline.arrRef spec1 6)) = (dat1 (atRefs (W3 m)) c).arrAt 6 cfg1.N := leave_arr 1 _ (W3 m) launch1 c 6
theorem W6_out (c : Dev nD) : W6 m c (Proc.devRef .tc (Pipeline.arrRef spec2 6)) = (dat2 (atRefs (W5 m)) c).arrAt 6 cfg2.N := leave_arr 2 _ (W5 m) launch2 c 6
theorem W8_out (c : Dev nD) : W8 m c (Proc.devRef .tc (Pipeline.arrRef spec3 6)) = (dat3 (atRefs (W7 m)) c).arrAt 6 cfg3.N := leave_arr 3 _ (W7 m) launch3 c 6

/-- @main's argument arrays. -/
abbrev args : List (Ref sig .tc) := [main_arg0, main_arg1, main_arg2, main_arg3, main_arg4, main_arg5, main_arg6, main_arg7, main_arg8, main_arg9, main_arg10, main_arg11, main_arg12, main_arg13, main_arg14]

/-- An argument is written by no host stretch and is no call's output. -/
theorem args_kept : ∀ a ∈ args, (a ∉ hostOps0_W ∧ a ∉ hostOps1_W ∧ a ∉ hostOps2_W ∧ a ∉ hostOps3_W ∧ a ∉ hostOps4_W)
    ∧ (∀ w : Fin cfg0.W, Pipeline.arrRef spec0 w = a → (cfg0.win w).isOut = false) ∧ (∀ w : Fin cfg1.W, Pipeline.arrRef spec1 w = a → (cfg1.win w).isOut = false)
    ∧ (∀ w : Fin cfg2.W, Pipeline.arrRef spec2 w = a → (cfg2.win w).isOut = false) ∧ (∀ w : Fin cfg3.W, Pipeline.arrRef spec3 w = a → (cfg3.win w).isOut = false) :=
  ListAll.forall_mem_of_all_decide (by decide +kernel)

/-- An argument array is as launched wherever a call is entered, -/
theorem W1_arg (c : Dev nD) (a : Ref sig .tc) (ha : a ∈ args) : W1 m c (Proc.devRef .tc a) = m ((c : Thread nD τ).loc a) :=
  W1_of m c a (args_kept a ha).1.1
theorem W3_arg (c : Dev nD) (a : Ref sig .tc) (ha : a ∈ args) : W3 m c (Proc.devRef .tc a) = m ((c : Thread nD τ).loc a) :=
  (W3_of m c a (args_kept a ha).1.2.1).trans ((W2_of m c a (args_kept a ha).2.1).trans (W1_arg m c a ha))
theorem W5_arg (c : Dev nD) (a : Ref sig .tc) (ha : a ∈ args) : W5 m c (Proc.devRef .tc a) = m ((c : Thread nD τ).loc a) :=
  (W5_of m c a (args_kept a ha).1.2.2.1).trans ((W4_of m c a (args_kept a ha).2.2.1).trans (W3_arg m c a ha))
theorem W6_arg (c : Dev nD) (a : Ref sig .tc) (ha : a ∈ args) : W6 m c (Proc.devRef .tc a) = m ((c : Thread nD τ).loc a) :=
  (W6_of m c a (args_kept a ha).2.2.2.1).trans (W5_arg m c a ha)
/-- and at the return. -/
theorem W9_arg (c : Dev nD) (a : Ref sig .tc) (ha : a ∈ args) : W9 m c (Proc.devRef .tc a) = m ((c : Thread nD τ).loc a) :=
  (W9_of m c a (args_kept a ha).1.2.2.2.2).trans ((W8_of m c a (args_kept a ha).2.2.2.2).trans
    ((W7_of m c a (args_kept a ha).1.2.2.2.1).trans (W6_arg m c a ha)))

/-! ## The segments and the launch -/

/-- A host stretch as a segment, entered at the contents `W`. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVariants noLevels zeroLevel :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Beside

def region0 : Pipeline.RegionSeg (pcfgs (F := F)) adm (data m) () defs₀ noVariants noLevels zeroLevel 0 :=
  segmentOf (data m) 0 launch0 (W1 m) (obligation0 (atRefs (W1 m))) (dat0_A (atRefs (W1 m))) (fun _ _ => rfl) (fun _ _ => rfl) (fun _ _ => rfl)
    (enter0 (atRefs (W1 m))) (exit0 (atRefs (W1 m)))
def region1 : Pipeline.RegionSeg (pcfgs (F := F)) adm (data m) () defs₀ noVariants noLevels zeroLevel 1 :=
  segmentOf (data m) 1 launch1 (W3 m) (obligation1 (atRefs (W3 m))) (dat1_A (atRefs (W3 m))) (fun _ _ => rfl) (fun _ _ => rfl) (fun _ _ => rfl)
    (enter1 (atRefs (W3 m))) (exit1 (atRefs (W3 m)))
def region2 : Pipeline.RegionSeg (pcfgs (F := F)) adm (data m) () defs₀ noVariants noLevels zeroLevel 2 :=
  segmentOf (data m) 2 launch2 (W5 m) (obligation2 (atRefs (W5 m))) (dat2_A (atRefs (W5 m))) (fun _ _ => rfl) (fun _ _ => rfl) (fun _ _ => rfl)
    (enter2 (atRefs (W5 m))) (exit2 (atRefs (W5 m)))
def region3 : Pipeline.RegionSeg (pcfgs (F := F)) adm (data m) () defs₀ noVariants noLevels zeroLevel 3 :=
  segmentOf (data m) 3 launch3 (W7 m) (obligation3 (atRefs (W7 m))) (dat3_A (atRefs (W7 m))) (fun _ _ => rfl) (fun _ _ => rfl) (fun _ _ => rfl)
    (fun _ => .rfl) (fun _ => .rfl)

/-- @main's nine segments in order. -/
abbrev segments : List (Pipeline.Seg (pcfgs (F := F)) adm (data m) () defs₀ noVariants noLevels zeroLevel) :=
  [ .host (stretch hostOps0 hostOps0_sub hostOps0_fresh (W0 m)), .region (region0 m),
    .host (stretch hostOps1 hostOps1_sub hostOps1_fresh (W2 m)), .region (region1 m),
    .host (stretch hostOps2 hostOps2_sub hostOps2_fresh (W4 m)), .region (region2 m),
    .host (stretch hostOps3 hostOps3_sub hostOps3_fresh (W6 m)), .region (region3 m),
    .host (stretch hostOps4 hostOps4_sub hostOps4_fresh (W8 m)) ]

/-- @main is the run of its segments. -/
theorem main_segments (c : Dev nD) : main (F := F) c = Pipeline.Seg.run (segments m) := (main_chain c).trans (by chain_rfl)

/-- Every semaphore of the TensorCore is scoped. -/
theorem all_scoped : ∀ sm : SemLoc sig, sm.isScoped .tc = true := by decide

/-- An unscoped reference is among those the thread state holds. -/
theorem mem_held (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN: from any memory with zero counters, every weakly fair execution of @main terminates, with every unscoped
    buffer at the contents `W9` and every semaphore counter at zero. -/
theorem whole_run : θ_run defs (onTc (τ := τ) (main (F := F))) ⟨m, fun _ => 0, ρ⟩ (fun r =>
      (∀ c : Dev nD, ∀ b ∈ Pipeline.ucRefs τ sig, r.2.mem (((c : Thread nD τ)).1, b) = W9 m c b) ∧ r.2.sem = fun _ => 0) :=
  Pipeline.θ_run_regions_kit_sems (pcfgs (F := F)) adm (data m) () cellOf_inj emb₁ defs₀ noVariants noLevels zeroLevel m ρ main (segments m)
    (fun c Q => by rw [main_segments m c])
    (by simp only [segments, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := AtBoundary (W0 m)) (Tₙ := fun c => iprop(StableHlo.held (c : Thread nD τ) (Pipeline.ucRefs τ sig) (W9 m c) ∗ ∃ r, prngReg c r))
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, stretch, Pipeline.HostSeg.ofOps]
      iintro ⟨Hh, Hp, HO⟩
      isplitl [Hh Hp]
      · isplitl [Hh]; · iexact Hh
        iexact Hp
      iexact HO⟩)
    (hinit := by
      refine Pipeline.initEach noLevels zeroLevel fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m c b)
    (hfin := fun c s' => by
      iintro ⟨⟨Hh, -⟩, HSI⟩
      unfold StableHlo.held
      imodintro
      iapply (pointsTo_read_all (Pipeline.ucRefs τ sig) (fun b => (((c : Thread nD τ)).1, b)) (W9 m c) s')
      isplitl [Hh] <;> iassumption)
    (hQ := fun s h hz => ⟨h, funext fun g => hz g (.inr (all_scoped g.2))⟩)

/-- No argument is a scoped buffer. -/
theorem args_unscoped : ∀ a ∈ args, ¬ (Proc.devRef .tc a : DevRef τ sig).isScoped := ListAll.forall_mem_of_all_decide (by decide +kernel)

/-- At the end of the run every argument array is as launched. -/
theorem end_arg {r : MemSt nD τ sig (Elt F)} (c : Dev nD) (h : ∀ b ∈ Pipeline.ucRefs τ sig, r.mem (((c : Thread nD τ)).1, b) = W9 m c b)
    (a : Ref sig .tc) (ha : a ∈ args) : r.mem ((c.tc : Thread nD τ).loc a) = m ((c.tc : Thread nD τ).loc a) :=
  (h _ (mem_held a (args_unscoped a ha))).trans (W9_arg m c a ha)

/-- THE FRAME: @main terminates from any memory with zero counters, its arguments as launched, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  (θ_run defs _ _).mono (fun r h => ⟨fun c => by
    refine ⟨?_, ?_, ?_, ?_, ?_, ?_, ?_, ?_, ?_, ?_, ?_, ?_, ?_, ?_, ?_⟩ <;> exact end_arg m c (h.1 c) _ (by decide), h.2⟩) (whole_run m ρ)

end Cert.KernelIdeal.Layers

end
-- ==== Proof.KernelFrame.lean ====
/- The frame of the kernel as printed. Its program is the idealized module's under another name, so the frame proved of
   the latter for any values is, at the float words, the claim about the former. -/
module

public import proofs.«01_k».proof.Proof.Gen.Kernel.Launch
public import proofs.«01_k».proof.Proof.WholeRun
public import proofs.«01_k».proof.Defs

@[expose] public section

set_option maxRecDepth 16384

namespace Cert.Kernel.Layers

open Idealize.ShloMosaic Idealize.SL.Sem

/-- The frame of the idealized module's program at the float words. -/
abbrev WordFrame : Prop :=
  ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

/-- It is the claim about the kernel as printed: the two programs are the same text. -/
theorem same_text : @quiescent_Kernel Cert.Kernel.Gen.facts = WordFrame := by chain_rfl

/-- The kernel terminates from any memory with zero counters, its arguments as launched, every counter at zero. -/
theorem frame : @quiescent_Kernel Cert.Kernel.Gen.facts :=
  same_text.mpr fun m g _ => Cert.KernelIdeal.Layers.frame (F := Bits) m g

end Cert.Kernel.Layers
-- ==== Proof.LayerMath.lean ====
/- The mathematics of one layer on whole vectors of extended reals: a stack of three pairs of matrices applied to a pair
   of activations, summed, biased and gated by the sign of the real part; and the kernel's payloads and the reference's
   stages as that mathematics. -/
module

public import proofs.«01_k».proof.Proof.Gen.KernelIdeal.Skeleton
public import proofs.«01_k».proof.Proof.Gen.ReferenceIdeal.Read
public import Idealize.ShloMosaic.Lib.KernelVsHost
public import Idealize.ShloMosaic.Lib.Tactic

@[expose] public section

set_option maxRecDepth 16384

noncomputable section

namespace Cert.KernelIdeal.Layers

open Cert.KernelIdeal.Gen
open Idealize.ShloMosaic Idealize.ShloMosaic.Tactic

/-- A whole vector of extended reals. -/
abbrev RVec (s : Shape) := FVec Ideal s .f32

theorem lapSlices (k : Fin 3) : S3x2048x2048.Slices ![k.val, 0, 0] S1x2048x2048 := by fin_cases k <;> decide
theorem wide_slices (k : Fin 3) : S3x128x8.Slices ![k.val, 0, 0] S1x128x8 := by fin_cases k <;> decide
theorem narrow_slices (k : Fin 3) : S3x8x8.Slices ![k.val, 0, 0] S1x8x8 := by fin_cases k <;> decide

/-- Matrix `k` of a stack of three [2048, 2048] matrices; -/
def lap (x : RVec S3x2048x2048) (k : Fin 3) : RVec S2048x2048 :=
  shapeCast S2048x2048 (extractStridedSlice S1x2048x2048 ![k.val, 0, 0] x (lapSlices k)) shapeCasts_S1x2048x2048_S2048x2048
/-- of a stack of three [128, 8] weights; -/
def wide (x : RVec S3x128x8) (k : Fin 3) : RVec S128x8 :=
  shapeCast S128x8 (extractStridedSlice S1x128x8 ![k.val, 0, 0] x (wide_slices k)) shapeCasts_S1x128x8_S128x8
/-- of a stack of three [8, 8] weights. -/
def narrow (x : RVec S3x8x8) (k : Fin 3) : RVec S8x8 :=
  shapeCast S8x8 (extractStridedSlice S1x8x8 ![k.val, 0, 0] x (narrow_slices k)) shapeCasts_S1x8x8_S8x8

section Layer

variable {sx sw : Shape} (d : DotDims S2048x2048 sx sx) (e : DotDims sx sw S2048x8)

/-- A matrix applied to an activation, then the weight: `(l ⬝ x) ⬝ w`. -/
def twice (l : RVec S2048x2048) (x : RVec sx) (w : RVec sw) : RVec S2048x8 :=
  Host.dotGeneral e none (Host.dotGeneral d none l x : RVec sx) w

/-- The real part of the complex product, -/
def realTerm (lr li : RVec S2048x2048) (xr xi : RVec sx) (w : RVec sw) : RVec S2048x8 :=
  subf (twice d e lr xr w) (twice d e li xi w)
/-- and its imaginary part. -/
def imagTerm (lr li : RVec S2048x2048) (xr xi : RVec sx) (w : RVec sw) : RVec S2048x8 :=
  addf (twice d e li xr w) (twice d e lr xi w)

/-- A bias row on every row. -/
def biasRows (b : RVec S1x8) : RVec S2048x8 := broadcastInDim S2048x8 ![0, 1] Cert.ReferenceIdeal.Gen.facts.bcast_S1x8_S2048x8_0_1 b

/-- Three terms summed, and the bias. -/
def summed (p : Fin 3 → RVec S2048x8) (b : RVec S1x8) : RVec S2048x8 := addf (addf (addf (p 0) (p 1)) (p 2)) (biasRows b)

/-- One where the real part is at least zero, zero elsewhere. -/
def gateMask (r : RVec S2048x8) : RVec S2048x8 :=
  uitofp .f32 (cmpf .oge r (broadcastInDim S2048x8 ![] Cert.ReferenceIdeal.Gen.facts.bcast_S_S2048x8 (constant Cert.ReferenceIdeal.S_ .f32 0x00000000#32)))

/-- The layer's sums before the gate, -/
def realSum (Lr Li : Fin 3 → RVec S2048x2048) (xr xi : RVec sx) (w : Fin 3 → RVec sw) (b : RVec S1x8) : RVec S2048x8 :=
  summed (fun k => realTerm d e (Lr k) (Li k) xr xi (w k)) b
def imagSum (Lr Li : Fin 3 → RVec S2048x2048) (xr xi : RVec sx) (w : Fin 3 → RVec sw) (b : RVec S1x8) : RVec S2048x8 :=
  summed (fun k => imagTerm d e (Lr k) (Li k) xr xi (w k)) b
/-- and the pair it leaves. -/
def layerReal (Lr Li : Fin 3 → RVec S2048x2048) (xr xi : RVec sx) (w : Fin 3 → RVec sw) (b : RVec S1x8) : RVec S2048x8 :=
  mulf (gateMask (realSum d e Lr Li xr xi w b)) (realSum d e Lr Li xr xi w b)
def layerImag (Lr Li : Fin 3 → RVec S2048x2048) (xr xi : RVec sx) (w : Fin 3 → RVec sw) (b : RVec S1x8) : RVec S2048x8 :=
  mulf (gateMask (realSum d e Lr Li xr xi w b)) (imagSum d e Lr Li xr xi w b)

end Layer

/-- The first layer takes 128 columns to 8, -/
def firstReal (a0 a1 : RVec S2048x128) (a2 a3 : RVec S3x2048x2048) (w : RVec S3x128x8) (b : RVec S1x8) : RVec S2048x8 :=
  layerReal dot_S2048x2048_S2048x128_S2048x128_1_0_0_1_n_n dot_S2048x128_S128x8_S2048x8_1_0_0_1_n_n (lap a2) (lap a3) a0 a1 (wide w) b
def firstImag (a0 a1 : RVec S2048x128) (a2 a3 : RVec S3x2048x2048) (w : RVec S3x128x8) (b : RVec S1x8) : RVec S2048x8 :=
  layerImag dot_S2048x2048_S2048x128_S2048x128_1_0_0_1_n_n dot_S2048x128_S128x8_S2048x8_1_0_0_1_n_n (lap a2) (lap a3) a0 a1 (wide w) b
/-- the later ones 8 to 8. -/
def nextReal (xr xi : RVec S2048x8) (a2 a3 : RVec S3x2048x2048) (w : RVec S3x8x8) (b : RVec S1x8) : RVec S2048x8 :=
  layerReal dot_S2048x2048_S2048x8_S2048x8_1_0_0_1_n_n dot_S2048x8_S8x8_S2048x8_1_0_0_1_n_n (lap a2) (lap a3) xr xi (narrow w) b
def nextImag (xr xi : RVec S2048x8) (a2 a3 : RVec S3x2048x2048) (w : RVec S3x8x8) (b : RVec S1x8) : RVec S2048x8 :=
  layerImag dot_S2048x2048_S2048x8_S2048x8_1_0_0_1_n_n dot_S2048x8_S8x8_S2048x8_1_0_0_1_n_n (lap a2) (lap a3) xr xi (narrow w) b

/-- A pair side by side. -/
def sideBySide (r i : RVec S2048x8) : RVec S2048x16 :=
  concatenate S2048x16 1 [⟨S2048x8, r⟩, ⟨S2048x8, i⟩] concatenates_S2048x8_S2048x8_S2048x16_d1

/-! ## The kernel's payloads -/

/-- The first layer's two terms. -/
theorem term0_real (x0 x1 : RVec S2048x128) (l4 l5 : FVec Ideal S1x2048x2048 .bf16) (w : RVec S1x128x8) :
    k0_pay7 (F := Ideal) x0 x1 l4 l5 w = realTerm dot_S2048x2048_S2048x128_S2048x128_1_0_0_1_n_n dot_S2048x128_S128x8_S2048x8_1_0_0_1_n_n
      (shapeCast S2048x2048 l4 shapeCasts_S1x2048x2048_S2048x2048) (shapeCast S2048x2048 l5 shapeCasts_S1x2048x2048_S2048x2048) x0 x1
      (shapeCast S128x8 w shapeCasts_S1x128x8_S128x8) := by
  unfold k0_pay7; simp only [matmul_zero_eq_dotGeneral]; rfl
theorem term0_imag (x0 x1 : RVec S2048x128) (l4 l5 : FVec Ideal S1x2048x2048 .bf16) (w : RVec S1x128x8) :
    k0_pay8 (F := Ideal) x0 x1 l4 l5 w = imagTerm dot_S2048x2048_S2048x128_S2048x128_1_0_0_1_n_n dot_S2048x128_S128x8_S2048x8_1_0_0_1_n_n
      (shapeCast S2048x2048 l4 shapeCasts_S1x2048x2048_S2048x2048) (shapeCast S2048x2048 l5 shapeCasts_S1x2048x2048_S2048x2048) x0 x1
      (shapeCast S128x8 w shapeCasts_S1x128x8_S128x8) := by
  unfold k0_pay8; simp only [matmul_zero_eq_dotGeneral]; rfl

/-- A later layer's two terms. -/
theorem term1_real (x0 x1 : RVec S2048x8) (l4 l5 : FVec Ideal S1x2048x2048 .bf16) (w : RVec S1x8x8) :
    k1_pay9 (F := Ideal) x0 x1 l4 l5 w = realTerm dot_S2048x2048_S2048x8_S2048x8_1_0_0_1_n_n dot_S2048x8_S8x8_S2048x8_1_0_0_1_n_n
      (shapeCast S2048x2048 l4 shapeCasts_S1x2048x2048_S2048x2048) (shapeCast S2048x2048 l5 shapeCasts_S1x2048x2048_S2048x2048) x0 x1
      (shapeCast S8x8 w shapeCasts_S1x8x8_S8x8) := by
  unfold k1_pay9 k1_pay4 k1_pay5; simp only [matmul_zero_eq_dotGeneral, shapeCast_self]; rfl
theorem term1_imag (x0 x1 : RVec S2048x8) (l4 l5 : FVec Ideal S1x2048x2048 .bf16) (w : RVec S1x8x8) :
    k1_pay10 (F := Ideal) x0 x1 l4 l5 w = imagTerm dot_S2048x2048_S2048x8_S2048x8_1_0_0_1_n_n dot_S2048x8_S8x8_S2048x8_1_0_0_1_n_n
      (shapeCast S2048x2048 l4 shapeCasts_S1x2048x2048_S2048x2048) (shapeCast S2048x2048 l5 shapeCasts_S1x2048x2048_S2048x2048) x0 x1
      (shapeCast S8x8 w shapeCasts_S1x8x8_S8x8) := by
  unfold k1_pay10 k1_pay4 k1_pay5; simp only [matmul_zero_eq_dotGeneral, shapeCast_self]; rfl

/-- The bias row a kernel broadcasts is the one the host does. -/
theorem broadcastTo_bias (b : RVec S1x8) : broadcastTo S2048x8 b broadcasts_S1x8_S2048x8 = biasRows b := by
  funext i
  refine (broadcastTo_apply b broadcasts_S1x8_S2048x8 i (ValueIdx.ix2 0 (i 1)) fun a => ?_).trans
    (broadcastInDim_apply _ _ b i (ValueIdx.ix2 0 (i 1)) fun a => ?_).symm
  all_goals fin_cases a <;> rfl

/-- The mask a kernel makes of the real part is the reference's. -/
theorem kernelMask (r : RVec S2048x8) :
    (sitofp .f32 (extui 32 (cmpf .oge r (broadcast S2048x8 (Scalar.ofBits (F := Ideal) .f32 0x00000000#32))) natLt_1_32) : RVec S2048x8)
      = gateMask r := by
  rw [sitofp_extui_eq_uitofp]; unfold gateMask; rw [broadcastInDim_constant]

/-- What the last point stores: the gated pair, side by side. -/
theorem stored0 (r i : RVec S2048x8) (b : RVec S1x8) : k0_pay1 (F := Ideal) r b i b
    = sideBySide (mulf (gateMask (addf r (biasRows b))) (addf r (biasRows b))) (mulf (gateMask (addf r (biasRows b))) (addf i (biasRows b))) := by
  rw [← kernelMask, ← broadcastTo_bias]; rfl
theorem stored1 (r i : RVec S2048x8) (b : RVec S1x8) : k1_pay3 (F := Ideal) r b i b
    = sideBySide (mulf (gateMask (addf r (biasRows b))) (addf r (biasRows b))) (mulf (gateMask (addf r (biasRows b))) (addf i (biasRows b))) := by
  rw [← kernelMask, ← broadcastTo_bias]; rfl

end Cert.KernelIdeal.Layers
-- ==== Proof.LayerPoints.lean ====
/- One layer from the blocks its three grid points read: slab `k` of each stack at point `k`, the three points' terms
   summed, and the pair the last point stores. -/
module

public import proofs.«01_k».proof.Proof.LayerMath

@[expose] public section

set_option maxRecDepth 16384

noncomputable section

namespace Cert.KernelIdeal.Layers

open Cert.KernelIdeal.Gen
open Idealize.ShloMosaic Idealize.ShloMosaic.Tactic

/-- A block of one matrix, read off a stack of three at block index `(k, 0, 0)`, is the stack's slab `k`. -/
theorem slab_of_block {r d : ℕ} (x : RVec ⟨3, ![3, r, d]⟩) (v : RVec ⟨3, ![1, r, d]⟩) (k : ℕ)
    (h : (⟨3, ![3, r, d]⟩ : Shape).Slices ![k, 0, 0] ⟨3, ![1, r, d]⟩) (at_ : Fin 3 → ℕ) (hat : at_ 0 = k ∧ at_ 1 = 0 ∧ at_ 2 = 0)
    (pos : (⟨3, ![1, r, d]⟩ : Shape).Idx → (⟨3, ![3, r, d]⟩ : Shape).Idx) (hv : ∀ j, v j = x (pos j))
    (hpos : ∀ j, (pos j 0).val = at_ 0 * 1 + 1 * (j 0).val ∧ (pos j 1).val = at_ 1 * r + 1 * (j 1).val ∧ (pos j 2).val = at_ 2 * d + 1 * (j 2).val) :
    v = extractStridedSlice ⟨3, ![1, r, d]⟩ ![k, 0, 0] x h := by
  obtain ⟨h0, h1, h2⟩ := hat
  funext j
  obtain ⟨p0, p1, p2⟩ := hpos j
  rw [hv j]
  unfold extractStridedSlice
  refine congrArg x (funext fun a => Fin.ext ?_)
  match a with
  | ⟨0, _⟩ => exact p0.trans (show at_ 0 * 1 + 1 * (j 0).val = k + (j 0).val by rw [h0]; omega)
  | ⟨1, _⟩ => exact p1.trans (show at_ 1 * r + 1 * (j 1).val = 0 + (j 1).val by rw [h1]; omega)
  | ⟨2, _⟩ => exact p2.trans (show at_ 2 * d + 1 * (j 2).val = 0 + (j 2).val by rw [h2]; omega)

section

variable (a2 a3 : RVec S3x2048x2048) (b : RVec S1x8) (l4 l5 : Fin 3 → FVec Ideal S1x2048x2048 .bf16)
  (h4 : ∀ k, shapeCast S2048x2048 (l4 k) shapeCasts_S1x2048x2048_S2048x2048 = lap a2 k)
  (h5 : ∀ k, shapeCast S2048x2048 (l5 k) shapeCasts_S1x2048x2048_S2048x2048 = lap a3 k)
include h4 h5

/-- The first layer's three points: what the last of them stores is the layer's pair. -/
theorem first_points (x0 x1 : RVec S2048x128) (w : RVec S3x128x8) (y0 y1 : Fin 3 → RVec S2048x128) (v : Fin 3 → RVec S1x128x8)
    (b' : RVec S1x8) (h0 : ∀ k, y0 k = x0) (h1 : ∀ k, y1 k = x1) (hw : ∀ k, shapeCast S128x8 (v k) shapeCasts_S1x128x8_S128x8 = wide w k)
    (hb : b' = b) :
    k0_pay1 (F := Ideal)
      (k0_pay11 (F := Ideal) (y0 2) (y1 2) (l4 2) (l5 2) (v 2) (k0_pay11 (F := Ideal) (y0 1) (y1 1) (l4 1) (l5 1) (v 1)
        (k0_pay9 (F := Ideal) (y0 0) (y1 0) (l4 0) (l5 0) (v 0)))) b'
      (k0_pay12 (F := Ideal) (y0 2) (y1 2) (l4 2) (l5 2) (v 2) (k0_pay12 (F := Ideal) (y0 1) (y1 1) (l4 1) (l5 1) (v 1)
        (k0_pay10 (F := Ideal) (y0 0) (y1 0) (l4 0) (l5 0) (v 0)))) b'
    = sideBySide (firstReal x0 x1 a2 a3 w b) (firstImag x0 x1 a2 a3 w b) := by
  rw [stored0]
  unfold k0_pay11 k0_pay12 k0_pay9 k0_pay10
  simp only [shapeCast_self, term0_real, term0_imag, h0, h1, h4, h5, hw, hb]
  rfl

/-- A later layer's three points. -/
theorem next_points (x0 x1 : RVec S2048x8) (w : RVec S3x8x8) (y0 y1 : Fin 3 → RVec S2048x8) (v : Fin 3 → RVec S1x8x8)
    (b' : RVec S1x8) (h0 : ∀ k, y0 k = x0) (h1 : ∀ k, y1 k = x1) (hw : ∀ k, shapeCast S8x8 (v k) shapeCasts_S1x8x8_S8x8 = narrow w k)
    (hb : b' = b) :
    k1_pay3 (F := Ideal)
      (k1_pay1 (F := Ideal) (k1_pay9 (F := Ideal) (y0 2) (y1 2) (l4 2) (l5 2) (v 2))
        (k1_pay1 (F := Ideal) (k1_pay9 (F := Ideal) (y0 1) (y1 1) (l4 1) (l5 1) (v 1)) (k1_pay11 (F := Ideal) (y0 0) (y1 0) (l4 0) (l5 0) (v 0)))) b'
      (k1_pay2 (F := Ideal) (k1_pay10 (F := Ideal) (y0 2) (y1 2) (l4 2) (l5 2) (v 2))
        (k1_pay2 (F := Ideal) (k1_pay10 (F := Ideal) (y0 1) (y1 1) (l4 1) (l5 1) (v 1)) (k1_pay12 (F := Ideal) (y0 0) (y1 0) (l4 0) (l5 0) (v 0)))) b'
    = sideBySide (nextReal x0 x1 a2 a3 w b) (nextImag x0 x1 a2 a3 w b) := by
  rw [stored1]
  unfold k1_pay1 k1_pay2 k1_pay11 k1_pay12
  simp only [shapeCast_self, term1_real, term1_imag, h0, h1, h4, h5, hw, hb]
  rfl

end

end Cert.KernelIdeal.Layers

end
-- ==== Proof.RegionValue0.lean ====
/- What the first layer's region leaves in its result array: the layer's pair, side by side. -/
module

public import proofs.«01_k».proof.Proof.LayerPoints
public import proofs.«01_k».proof.Proof.Region0
public import Idealize.ShloMosaic.Lib.Pipeline.Value

@[expose] public section

set_option maxRecDepth 16384

noncomputable section

namespace Cert.KernelIdeal.Layers

open Cert.KernelIdeal.Gen
open Idealize.ShloMosaic Idealize.ShloMosaic.TcCoe Idealize.ShloMosaic.Tactic
open Idealize.SL Idealize.SL.Sem
open Idealize.ShloMosaic.Pipeline (Dat Cfg Window cellOf)

variable (V : (c : Dev nD) → (b : Ref sig .tc) → Buf (Elt Ideal) ((c : Thread nD τ).loc b)) (c : Dev nD)

/-! ## The blocks, read off the arrays -/

/-- The activations and the bias are one block each. -/
theorem whole0_0 (t : Fin cfg0.N) : blk0 V c 0 t = V c main_arg0 :=
  Memref.read_access_unit_zero (Elt Ideal) main_arg0 (funext fun a => by fin_cases a <;> rfl) _ _
theorem whole0_1 (t : Fin cfg0.N) : blk0 V c 1 t = V c main_arg1 :=
  Memref.read_access_unit_zero (Elt Ideal) main_arg1 (funext fun a => by fin_cases a <;> rfl) _ _
theorem whole0_3 (t : Fin cfg0.N) : blk0 V c 3 t = V c main_arg5 :=
  Memref.read_access_unit_zero (Elt Ideal) main_arg5 (funext fun a => by fin_cases a <;> rfl) _ _

/-- Point `t` reads matrix `t` of each stack. -/
theorem index0 (t : Fin cfg0.N) : (win0_4.index t 0 = t.val ∧ win0_4.index t 1 = 0 ∧ win0_4.index t 2 = 0)
    ∧ (win0_5.index t 0 = t.val ∧ win0_5.index t 1 = 0 ∧ win0_5.index t 2 = 0)
    ∧ (win0_2.index t 0 = t.val ∧ win0_2.index t 1 = 0 ∧ win0_2.index t 2 = 0) := by
  rcases fin_N0 t with rfl | rfl | rfl <;> decide

theorem stack0_4 (t : Fin cfg0.N) (k : Fin 3) (h : k.val = t.val) :
    shapeCast S2048x2048 (blk0 V c 4 t) shapeCasts_S1x2048x2048_S2048x2048 = lap (V c main_v0) k :=
  congrArg (shapeCast S2048x2048 · shapeCasts_S1x2048x2048_S2048x2048) (slab_of_block (V c main_v0) (blk0 V c 4 t) k.val (lapSlices k) (win0_4.index t)
    (h ▸ (index0 t).1) _ (fun j => View.read_apply ..) fun j => ⟨rfl, rfl, rfl⟩)
theorem stack0_5 (t : Fin cfg0.N) (k : Fin 3) (h : k.val = t.val) :
    shapeCast S2048x2048 (blk0 V c 5 t) shapeCasts_S1x2048x2048_S2048x2048 = lap (V c main_v1) k :=
  congrArg (shapeCast S2048x2048 · shapeCasts_S1x2048x2048_S2048x2048) (slab_of_block (V c main_v1) (blk0 V c 5 t) k.val (lapSlices k) (win0_5.index t)
    (h ▸ (index0 t).2.1) _ (fun j => View.read_apply ..) fun j => ⟨rfl, rfl, rfl⟩)
theorem stack0_2 (t : Fin cfg0.N) (k : Fin 3) (h : k.val = t.val) :
    shapeCast S128x8 (blk0 V c 2 t) shapeCasts_S1x128x8_S128x8 = wide (V c main_arg4) k :=
  congrArg (shapeCast S128x8 · shapeCasts_S1x128x8_S128x8) (slab_of_block (V c main_arg4) (blk0 V c 2 t) k.val (wide_slices k) (win0_2.index t)
    (h ▸ (index0 t).2.2) _ (fun j => View.read_apply ..) fun j => ⟨rfl, rfl, rfl⟩)

/-! ## The result array -/

/-- The pair the region computes. -/
def pair0 : RVec S2048x16 := sideBySide
  (firstReal (V c main_arg0) (V c main_arg1) (V c main_v0) (V c main_v1) (V c main_arg4) (V c main_arg5))
  (firstImag (V c main_arg0) (V c main_arg1) (V c main_v0) (V c main_v1) (V c main_arg4) (V c main_arg5))

/-- Grid point `k`. -/
abbrev point0 (k : Fin 3) : Fin cfg0.N := ⟨k.val, k.isLt.trans_eq N_0.symm⟩

theorem after0_last (t : Fin cfg0.N) (h : t.val = 2) : (dat0 V c).after 6 t = pair0 V c := by
  obtain ⟨n, hn⟩ := t
  obtain rfl : n = 2 := h
  exact first_points (V c main_v0) (V c main_v1) (V c main_arg5) (fun k => blk0 V c 4 (point0 k)) (fun k => blk0 V c 5 (point0 k))
    (fun k => stack0_4 V c (point0 k) k rfl) (fun k => stack0_5 V c (point0 k) k rfl) (V c main_arg0) (V c main_arg1) (V c main_arg4)
    (fun k => blk0 V c 0 (point0 k)) (fun k => blk0 V c 1 (point0 k)) (fun k => blk0 V c 2 (point0 k)) (blk0 V c 3 ⟨2, hn⟩)
    (fun k => whole0_0 V c (point0 k)) (fun k => whole0_1 V c (point0 k)) (fun k => stack0_2 V c (point0 k) k rfl) (whole0_3 V c ⟨2, hn⟩)

theorem flushed0 (t : Fin cfg0.N) (hf : (cfg0.win 6).flush t = true) :
    (dat0 V c).flushed 6 t = ((cfg0.win 6).blk t).view.read (Elt Ideal) (pair0 V c) := by
  have h2 : t.val = 2 := by have := (flush0_6 t).mp hf; have := t.isLt; have : cfg0.N = 3 := N_0; omega
  show (cfg0.win 6).cut (grid0.coords t) ((dat0 V c).after 6 t) = _
  rw [after0_last V c t h2]
  exact (Memref.read_access_unit_zero (Elt Ideal) main_v2 (funext fun a => by fin_cases a <;> rfl) _ (pair0 V c)).symm

/-- The last point's block is the whole array. -/
theorem region0_result : (dat0 V c).arrAt 6 cfg0.N = pair0 V c :=
  (dat0 V c).arrAt_eq_of_cover 6 (pair0 V c) (flushed0 V c) fun i =>
    ⟨t0_2, (flush0_6 t0_2).mpr rfl, by
      show i ∈ ((View.whole main_v2).slice (win0_6.rect t0_2)).set
      rw [View.set_slice_whole, Rect.mem_set_unit]
      intro a
      have h0 : (i 0 : Nat) < 2048 := (i 0).isLt
      have h1 : (i 1 : Nat) < 16 := (i 1).isLt
      fin_cases a
      · exact ⟨Nat.zero_le _, h0⟩
      · exact ⟨Nat.zero_le _, h1⟩⟩

end Cert.KernelIdeal.Layers
-- ==== Proof.RegionValue1.lean ====
/- What the second layer's region leaves in its result array: the layer's pair, side by side. -/
module

public import proofs.«01_k».proof.Proof.LayerPoints
public import proofs.«01_k».proof.Proof.Region1
public import Idealize.ShloMosaic.Lib.Pipeline.Value

@[expose] public section

set_option maxRecDepth 16384

noncomputable section

namespace Cert.KernelIdeal.Layers

open Cert.KernelIdeal.Gen
open Idealize.ShloMosaic Idealize.ShloMosaic.TcCoe Idealize.ShloMosaic.Tactic
open Idealize.SL Idealize.SL.Sem
open Idealize.ShloMosaic.Pipeline (Dat Cfg Window cellOf)

variable (V : (c : Dev nD) → (b : Ref sig .tc) → Buf (Elt Ideal) ((c : Thread nD τ).loc b)) (c : Dev nD)

/-! ## The blocks, read off the arrays -/

/-- The activations and the bias are one block each. -/
theorem whole1_0 (t : Fin cfg1.N) : blk1 V c 0 t = V c main_v3 :=
  Memref.read_access_unit_zero (Elt Ideal) main_v3 (funext fun a => by fin_cases a <;> rfl) _ _
theorem whole1_1 (t : Fin cfg1.N) : blk1 V c 1 t = V c main_v4 :=
  Memref.read_access_unit_zero (Elt Ideal) main_v4 (funext fun a => by fin_cases a <;> rfl) _ _
theorem whole1_3 (t : Fin cfg1.N) : blk1 V c 3 t = V c main_arg7 :=
  Memref.read_access_unit_zero (Elt Ideal) main_arg7 (funext fun a => by fin_cases a <;> rfl) _ _

/-- Point `t` reads matrix `t` of each stack. -/
theorem index1 (t : Fin cfg1.N) : (win1_4.index t 0 = t.val ∧ win1_4.index t 1 = 0 ∧ win1_4.index t 2 = 0)
    ∧ (win1_5.index t 0 = t.val ∧ win1_5.index t 1 = 0 ∧ win1_5.index t 2 = 0)
    ∧ (win1_2.index t 0 = t.val ∧ win1_2.index t 1 = 0 ∧ win1_2.index t 2 = 0) := by
  rcases fin_N1 t with rfl | rfl | rfl <;> decide

theorem stack1_4 (t : Fin cfg1.N) (k : Fin 3) (h : k.val = t.val) :
    shapeCast S2048x2048 (blk1 V c 4 t) shapeCasts_S1x2048x2048_S2048x2048 = lap (V c main_v0) k :=
  congrArg (shapeCast S2048x2048 · shapeCasts_S1x2048x2048_S2048x2048) (slab_of_block (V c main_v0) (blk1 V c 4 t) k.val (lapSlices k) (win1_4.index t)
    (h ▸ (index1 t).1) _ (fun j => View.read_apply ..) fun j => ⟨rfl, rfl, rfl⟩)
theorem stack1_5 (t : Fin cfg1.N) (k : Fin 3) (h : k.val = t.val) :
    shapeCast S2048x2048 (blk1 V c 5 t) shapeCasts_S1x2048x2048_S2048x2048 = lap (V c main_v1) k :=
  congrArg (shapeCast S2048x2048 · shapeCasts_S1x2048x2048_S2048x2048) (slab_of_block (V c main_v1) (blk1 V c 5 t) k.val (lapSlices k) (win1_5.index t)
    (h ▸ (index1 t).2.1) _ (fun j => View.read_apply ..) fun j => ⟨rfl, rfl, rfl⟩)
theorem stack1_2 (t : Fin cfg1.N) (k : Fin 3) (h : k.val = t.val) :
    shapeCast S8x8 (blk1 V c 2 t) shapeCasts_S1x8x8_S8x8 = narrow (V c main_arg6) k :=
  congrArg (shapeCast S8x8 · shapeCasts_S1x8x8_S8x8) (slab_of_block (V c main_arg6) (blk1 V c 2 t) k.val (narrow_slices k) (win1_2.index t)
    (h ▸ (index1 t).2.2) _ (fun j => View.read_apply ..) fun j => ⟨rfl, rfl, rfl⟩)

/-! ## The result array -/

/-- The pair the region computes. -/
def pair1 : RVec S2048x16 := sideBySide
  (nextReal (V c main_v3) (V c main_v4) (V c main_v0) (V c main_v1) (V c main_arg6) (V c main_arg7))
  (nextImag (V c main_v3) (V c main_v4) (V c main_v0) (V c main_v1) (V c main_arg6) (V c main_arg7))

/-- Grid point `k`. -/
abbrev point1 (k : Fin 3) : Fin cfg1.N := ⟨k.val, k.isLt.trans_eq N_1.symm⟩

theorem after1_last (t : Fin cfg1.N) (h : t.val = 2) : (dat1 V c).after 6 t = pair1 V c := by
  obtain ⟨n, hn⟩ := t
  obtain rfl : n = 2 := h
  exact next_points (V c main_v0) (V c main_v1) (V c main_arg7) (fun k => blk1 V c 4 (point1 k)) (fun k => blk1 V c 5 (point1 k))
    (fun k => stack1_4 V c (point1 k) k rfl) (fun k => stack1_5 V c (point1 k) k rfl) (V c main_v3) (V c main_v4) (V c main_arg6)
    (fun k => blk1 V c 0 (point1 k)) (fun k => blk1 V c 1 (point1 k)) (fun k => blk1 V c 2 (point1 k)) (blk1 V c 3 ⟨2, hn⟩)
    (fun k => whole1_0 V c (point1 k)) (fun k => whole1_1 V c (point1 k)) (fun k => stack1_2 V c (point1 k) k rfl) (whole1_3 V c ⟨2, hn⟩)

theorem flushed1 (t : Fin cfg1.N) (hf : (cfg1.win 6).flush t = true) :
    (dat1 V c).flushed 6 t = ((cfg1.win 6).blk t).view.read (Elt Ideal) (pair1 V c) := by
  have h2 : t.val = 2 := by have := (flush1_6 t).mp hf; have := t.isLt; have : cfg1.N = 3 := N_1; omega
  show (cfg1.win 6).cut (grid1.coords t) ((dat1 V c).after 6 t) = _
  rw [after1_last V c t h2]
  exact (Memref.read_access_unit_zero (Elt Ideal) main_v5 (funext fun a => by fin_cases a <;> rfl) _ (pair1 V c)).symm

/-- The last point's block is the whole array. -/
theorem region1_result : (dat1 V c).arrAt 6 cfg1.N = pair1 V c :=
  (dat1 V c).arrAt_eq_of_cover 6 (pair1 V c) (flushed1 V c) fun i =>
    ⟨t1_2, (flush1_6 t1_2).mpr rfl, by
      show i ∈ ((View.whole main_v5).slice (win1_6.rect t1_2)).set
      rw [View.set_slice_whole, Rect.mem_set_unit]
      intro a
      have h0 : (i 0 : Nat) < 2048 := (i 0).isLt
      have h1 : (i 1 : Nat) < 16 := (i 1).isLt
      fin_cases a
      · exact ⟨Nat.zero_le _, h0⟩
      · exact ⟨Nat.zero_le _, h1⟩⟩

end Cert.KernelIdeal.Layers
-- ==== Proof.RegionValue2.lean ====
/- What the third layer's region leaves in its result array: the layer's pair, side by side. -/
module

public import proofs.«01_k».proof.Proof.LayerPoints
public import proofs.«01_k».proof.Proof.Region2
public import Idealize.ShloMosaic.Lib.Pipeline.Value

@[expose] public section

set_option maxRecDepth 16384

noncomputable section

namespace Cert.KernelIdeal.Layers

open Cert.KernelIdeal.Gen
open Idealize.ShloMosaic Idealize.ShloMosaic.TcCoe Idealize.ShloMosaic.Tactic
open Idealize.SL Idealize.SL.Sem
open Idealize.ShloMosaic.Pipeline (Dat Cfg Window cellOf)

variable (V : (c : Dev nD) → (b : Ref sig .tc) → Buf (Elt Ideal) ((c : Thread nD τ).loc b)) (c : Dev nD)

/-! ## The blocks, read off the arrays -/

/-- The activations and the bias are one block each. -/
theorem whole2_0 (t : Fin cfg2.N) : blk2 V c 0 t = V c main_v6 :=
  Memref.read_access_unit_zero (Elt Ideal) main_v6 (funext fun a => by fin_cases a <;> rfl) _ _
theorem whole2_1 (t : Fin cfg2.N) : blk2 V c 1 t = V c main_v7 :=
  Memref.read_access_unit_zero (Elt Ideal) main_v7 (funext fun a => by fin_cases a <;> rfl) _ _
theorem whole2_3 (t : Fin cfg2.N) : blk2 V c 3 t = V c main_arg9 :=
  Memref.read_access_unit_zero (Elt Ideal) main_arg9 (funext fun a => by fin_cases a <;> rfl) _ _

/-- Point `t` reads matrix `t` of each stack. -/
theorem index2 (t : Fin cfg2.N) : (win2_4.index t 0 = t.val ∧ win2_4.index t 1 = 0 ∧ win2_4.index t 2 = 0)
    ∧ (win2_5.index t 0 = t.val ∧ win2_5.index t 1 = 0 ∧ win2_5.index t 2 = 0)
    ∧ (win2_2.index t 0 = t.val ∧ win2_2.index t 1 = 0 ∧ win2_2.index t 2 = 0) := by
  rcases fin_N2 t with rfl | rfl | rfl <;> decide

theorem stack2_4 (t : Fin cfg2.N) (k : Fin 3) (h : k.val = t.val) :
    shapeCast S2048x2048 (blk2 V c 4 t) shapeCasts_S1x2048x2048_S2048x2048 = lap (V c main_v0) k :=
  congrArg (shapeCast S2048x2048 · shapeCasts_S1x2048x2048_S2048x2048) (slab_of_block (V c main_v0) (blk2 V c 4 t) k.val (lapSlices k) (win2_4.index t)
    (h ▸ (index2 t).1) _ (fun j => View.read_apply ..) fun j => ⟨rfl, rfl, rfl⟩)
theorem stack2_5 (t : Fin cfg2.N) (k : Fin 3) (h : k.val = t.val) :
    shapeCast S2048x2048 (blk2 V c 5 t) shapeCasts_S1x2048x2048_S2048x2048 = lap (V c main_v1) k :=
  congrArg (shapeCast S2048x2048 · shapeCasts_S1x2048x2048_S2048x2048) (slab_of_block (V c main_v1) (blk2 V c 5 t) k.val (lapSlices k) (win2_5.index t)
    (h ▸ (index2 t).2.1) _ (fun j => View.read_apply ..) fun j => ⟨rfl, rfl, rfl⟩)
theorem stack2_2 (t : Fin cfg2.N) (k : Fin 3) (h : k.val = t.val) :
    shapeCast S8x8 (blk2 V c 2 t) shapeCasts_S1x8x8_S8x8 = narrow (V c main_arg8) k :=
  congrArg (shapeCast S8x8 · shapeCasts_S1x8x8_S8x8) (slab_of_block (V c main_arg8) (blk2 V c 2 t) k.val (narrow_slices k) (win2_2.index t)
    (h ▸ (index2 t).2.2) _ (fun j => View.read_apply ..) fun j => ⟨rfl, rfl, rfl⟩)

/-! ## The result array -/

/-- The pair the region computes. -/
def pair2 : RVec S2048x16 := sideBySide
  (nextReal (V c main_v6) (V c main_v7) (V c main_v0) (V c main_v1) (V c main_arg8) (V c main_arg9))
  (nextImag (V c main_v6) (V c main_v7) (V c main_v0) (V c main_v1) (V c main_arg8) (V c main_arg9))

/-- Grid point `k`. -/
abbrev point2 (k : Fin 3) : Fin cfg2.N := ⟨k.val, k.isLt.trans_eq N_2.symm⟩

theorem after2_last (t : Fin cfg2.N) (h : t.val = 2) : (dat2 V c).after 6 t = pair2 V c := by
  obtain ⟨n, hn⟩ := t
  obtain rfl : n = 2 := h
  exact next_points (V c main_v0) (V c main_v1) (V c main_arg9) (fun k => blk2 V c 4 (point2 k)) (fun k => blk2 V c 5 (point2 k))
    (fun k => stack2_4 V c (point2 k) k rfl) (fun k => stack2_5 V c (point2 k) k rfl) (V c main_v6) (V c main_v7) (V c main_arg8)
    (fun k => blk2 V c 0 (point2 k)) (fun k => blk2 V c 1 (point2 k)) (fun k => blk2 V c 2 (point2 k)) (blk2 V c 3 ⟨2, hn⟩)
    (fun k => whole2_0 V c (point2 k)) (fun k => whole2_1 V c (point2 k)) (fun k => stack2_2 V c (point2 k) k rfl) (whole2_3 V c ⟨2, hn⟩)

theorem flushed2 (t : Fin cfg2.N) (hf : (cfg2.win 6).flush t = true) :
    (dat2 V c).flushed 6 t = ((cfg2.win 6).blk t).view.read (Elt Ideal) (pair2 V c) := by
  have h2 : t.val = 2 := by have := (flush2_6 t).mp hf; have := t.isLt; have : cfg2.N = 3 := N_2; omega
  show (cfg2.win 6).cut (grid2.coords t) ((dat2 V c).after 6 t) = _
  rw [after2_last V c t h2]
  exact (Memref.read_access_unit_zero (Elt Ideal) main_v8 (funext fun a => by fin_cases a <;> rfl) _ (pair2 V c)).symm

/-- The last point's block is the whole array. -/
theorem region2_result : (dat2 V c).arrAt 6 cfg2.N = pair2 V c :=
  (dat2 V c).arrAt_eq_of_cover 6 (pair2 V c) (flushed2 V c) fun i =>
    ⟨t2_2, (flush2_6 t2_2).mpr rfl, by
      show i ∈ ((View.whole main_v8).slice (win2_6.rect t2_2)).set
      rw [View.set_slice_whole, Rect.mem_set_unit]
      intro a
      have h0 : (i 0 : Nat) < 2048 := (i 0).isLt
      have h1 : (i 1 : Nat) < 16 := (i 1).isLt
      fin_cases a
      · exact ⟨Nat.zero_le _, h0⟩
      · exact ⟨Nat.zero_le _, h1⟩⟩

end Cert.KernelIdeal.Layers
-- ==== Proof.RegionValue3.lean ====
/- What the tail's region leaves in its result array: the tail of its six arrays. -/
module

public import proofs.«01_k».proof.Proof.Region3
public import Idealize.ShloMosaic.PureOps.Ideal.Laws
public import Idealize.ShloMosaic.Lib.Pipeline.Value

@[expose] public section

set_option maxRecDepth 16384

noncomputable section

namespace Cert.KernelIdeal.Layers

open Cert.KernelIdeal.Gen
open Idealize.ShloMosaic Idealize.ShloMosaic.TcCoe Idealize.ShloMosaic.Tactic
open Idealize.SL Idealize.SL.Sem
open Idealize.ShloMosaic.Pipeline (Dat Cfg Window cellOf)

variable (V : (c : Dev nD) → (b : Ref sig .tc) → Buf (Elt Ideal) ((c : Thread nD τ).loc b)) (c : Dev nD)

theorem whole3_0 (t : Fin cfg3.N) : blk3 V c 0 t = V c main_v8 :=
  Memref.read_access_unit_zero (Elt Ideal) main_v8 (funext fun a => by fin_cases a <;> rfl) _ _
theorem whole3_1 (t : Fin cfg3.N) : blk3 V c 1 t = V c main_v9 :=
  Memref.read_access_unit_zero (Elt Ideal) main_v9 (funext fun a => by fin_cases a <;> rfl) _ _
theorem whole3_2 (t : Fin cfg3.N) : blk3 V c 2 t = V c main_v11 :=
  Memref.read_access_unit_zero (Elt Ideal) main_v11 (funext fun a => by fin_cases a <;> rfl) _ _
theorem whole3_3 (t : Fin cfg3.N) : blk3 V c 3 t = V c main_v12 :=
  Memref.read_access_unit_zero (Elt Ideal) main_v12 (funext fun a => by fin_cases a <;> rfl) _ _
theorem whole3_4 (t : Fin cfg3.N) : blk3 V c 4 t = V c main_v14 :=
  Memref.read_access_unit_zero (Elt Ideal) main_v14 (funext fun a => by fin_cases a <;> rfl) _ _
theorem whole3_5 (t : Fin cfg3.N) : blk3 V c 5 t = V c main_v15 :=
  Memref.read_access_unit_zero (Elt Ideal) main_v15 (funext fun a => by fin_cases a <;> rfl) _ _

/-- The tail of the six arrays. -/
def tail3 : FVec Ideal S2048x2 .f32 :=
  tailBlock (F := Ideal) (V c main_v8) (V c main_v9) (V c main_v11) (V c main_v12) (V c main_v14) (V c main_v15)

theorem flushed3 (t : Fin cfg3.N) (hf : (cfg3.win 6).flush t = true) :
    (dat3 V c).flushed 6 t = ((cfg3.win 6).blk t).view.read (Elt Ideal) (tail3 V c) := by
  have h : (dat3 V c).after 6 t = tail3 V c := by
    show tailBlock (blk3 V c 0 t) (blk3 V c 1 t) (blk3 V c 2 t) (blk3 V c 3 t) (blk3 V c 4 t) (blk3 V c 5 t) = _
    rw [whole3_0, whole3_1, whole3_2, whole3_3, whole3_4, whole3_5]; rfl
  show (cfg3.win 6).cut (grid3.coords t) ((dat3 V c).after 6 t) = _
  rw [h]
  exact (Memref.read_access_unit_zero (Elt Ideal) main_v16 (funext fun a => by fin_cases a <;> rfl) _ (tail3 V c)).symm

theorem region3_result : (dat3 V c).arrAt 6 cfg3.N = tail3 V c :=
  (dat3 V c).arrAt_eq_of_cover 6 (tail3 V c) (flushed3 V c) fun i =>
    ⟨t3_0, flush3_6 t3_0, by
      show i ∈ ((View.whole main_v16).slice (win3_6.rect t3_0)).set
      rw [View.set_slice_whole, Rect.mem_set_unit]
      intro a
      have h0 : (i 0 : Nat) < 2048 := (i 0).isLt
      have h1 : (i 1 : Nat) < 2 := (i 1).isLt
      fin_cases a
      · exact ⟨Nat.zero_le _, h0⟩
      · exact ⟨Nat.zero_le _, h1⟩⟩

end Cert.KernelIdeal.Layers
-- ==== Proof.LayerReference.lean ====
/- The reference's three layers are the layer mathematics. -/
module

public import proofs.«01_k».proof.Proof.LayerMath

@[expose] public section

set_option maxRecDepth 16384

noncomputable section

namespace Cert.KernelIdeal.Layers

open Cert.KernelIdeal.Gen
open Idealize.ShloMosaic Idealize.ShloMosaic.Tactic
open Cert.ReferenceIdeal.Read

variable (a0 a1 : RVec S2048x128) (a2 a3 : RVec S3x2048x2048) (a4 : RVec S3x128x8) (a5 : RVec S1x8) (a6 : RVec S3x8x8)
  (a7 : RVec S1x8) (a8 : RVec S3x8x8) (a9 : RVec S1x8)

/-- The reference's first pair, -/
theorem reference_first_real : val_main_v89 (F := Ideal) a0 a1 a2 a3 a4 a5 = firstReal a0 a1 a2 a3 a4 a5 := by chain_rfl
theorem reference_first_imag : val_main_v90 (F := Ideal) a0 a1 a2 a3 a4 a5 = firstImag a0 a1 a2 a3 a4 a5 := by chain_rfl

/-- its second, from the first, -/
theorem reference_second_real : val_main_v180 (F := Ideal) a0 a1 a2 a3 a4 a5 a6 a7
    = nextReal (val_main_v89 (F := Ideal) a0 a1 a2 a3 a4 a5) (val_main_v90 (F := Ideal) a0 a1 a2 a3 a4 a5) a2 a3 a6 a7 := by chain_rfl
theorem reference_second_imag : val_main_v181 (F := Ideal) a0 a1 a2 a3 a4 a5 a6 a7
    = nextImag (val_main_v89 (F := Ideal) a0 a1 a2 a3 a4 a5) (val_main_v90 (F := Ideal) a0 a1 a2 a3 a4 a5) a2 a3 a6 a7 := by chain_rfl

/-- and its third, from the second, laid side by side. -/
theorem reference_third : val_main_v273 (F := Ideal) a0 a1 a2 a3 a4 a5 a6 a7 a8 a9
    = sideBySide
        (nextReal (val_main_v180 (F := Ideal) a0 a1 a2 a3 a4 a5 a6 a7) (val_main_v181 (F := Ideal) a0 a1 a2 a3 a4 a5 a6 a7) a2 a3 a8 a9)
        (nextImag (val_main_v180 (F := Ideal) a0 a1 a2 a3 a4 a5 a6 a7) (val_main_v181 (F := Ideal) a0 a1 a2 a3 a4 a5 a6 a7) a2 a3 a8 a9) := by
  chain_rfl

/-- The columns the three layers leave. -/
def layers (a0 a1 : RVec S2048x128) (a2 a3 : RVec S3x2048x2048) (a4 : RVec S3x128x8) (a5 : RVec S1x8) (a6 : RVec S3x8x8)
    (a7 : RVec S1x8) (a8 : RVec S3x8x8) (a9 : RVec S1x8) : RVec S2048x16 :=
  sideBySide
    (nextReal (nextReal (firstReal a0 a1 a2 a3 a4 a5) (firstImag a0 a1 a2 a3 a4 a5) a2 a3 a6 a7)
      (nextImag (firstReal a0 a1 a2 a3 a4 a5) (firstImag a0 a1 a2 a3 a4 a5) a2 a3 a6 a7) a2 a3 a8 a9)
    (nextImag (nextReal (firstReal a0 a1 a2 a3 a4 a5) (firstImag a0 a1 a2 a3 a4 a5) a2 a3 a6 a7)
      (nextImag (firstReal a0 a1 a2 a3 a4 a5) (firstImag a0 a1 a2 a3 a4 a5) a2 a3 a6 a7) a2 a3 a8 a9)

theorem reference_layers : val_main_v273 (F := Ideal) a0 a1 a2 a3 a4 a5 a6 a7 a8 a9 = layers a0 a1 a2 a3 a4 a5 a6 a7 a8 a9 := by
  rw [reference_third, reference_second_real, reference_second_imag, reference_first_real, reference_first_imag]; rfl

end Cert.KernelIdeal.Layers
-- ==== Proof.TailMath.lean ====
/- The mathematics of the tail at an index: the channel gate, the seven-tap gate over the rows, the two logits of a row
   and their log-softmax. -/
module

public import proofs.«01_k».proof.Proof.LayerMath
public import Idealize.ShloMosaic.Lib.Pointwise

@[expose] public section

noncomputable section

namespace Cert.KernelIdeal.Layers

open Idealize.ShloMosaic

/-- The tail's weights: two channel weights, the taps of the row gate for its two inputs, the classifier and its bias. -/
structure TailWeights where
  w1 : Fin 16 → EReal
  w2 : Fin 16 → EReal
  tap : Fin 2 → Fin 7 → EReal
  cw : Fin 16 → Fin 2 → EReal
  cb : Fin 2 → EReal

variable (x : RVec S2048x16) (w : TailWeights)

/-- A column's mean. -/
def columnMean (f : Fin 16) : EReal := Ideal.div (∑ n : Fin 2048, x (ix2 n f)) (Ideal.ofBits .f32 0x45000000#32)

/-- The one hidden unit of the channel gate. -/
def hidden : EReal := max (∑ f : Fin 16, columnMean x f * w.w1 f) 0

/-- The columns after their gate. -/
def gated (n : Fin 2048) (f : Fin 16) : EReal := x (ix2 n f) * Ideal.logistic (w.w2 f * hidden x w)

/-- A row's mean and a row's maximum. -/
def rowMean (n : Fin 2048) : EReal := Ideal.div (∑ f : Fin 16, gated x w n f) (Ideal.ofBits .f32 0x41800000#32)
def rowMax (n : Fin 2048) : EReal := Finset.fold max (Ideal.ofBits .f32 0xFF800000#32) (fun f : Fin 16 => gated x w n f) Finset.univ

/-- A column of rows between three zeros before and three after. -/
def padded (v : Fin 2048 → EReal) (p : ℕ) : EReal := if p < 3 then 0 else if h : p - 3 < 2048 then v ⟨p - 3, h⟩ else 0

/-- One tap of the row gate; -/
def tapTerm (n : Fin 2048) (k : Fin 7) : EReal :=
  w.tap 0 k * padded (rowMean x w) (k.val + n.val) + w.tap 1 k * padded (rowMax x w) (k.val + n.val)

theorem tapTerm_zero (n : Fin 2048) :
    tapTerm x w n 0 = w.tap 0 0 * padded (rowMean x w) n.val + w.tap 1 0 * padded (rowMax x w) n.val := by
  unfold tapTerm
  rw [show ((0 : Fin 7).val + n.val) = n.val from Nat.zero_add _]

/-- the seven of them. -/
def score (n : Fin 2048) : EReal :=
  tapTerm x w n 0 + tapTerm x w n 1 + tapTerm x w n 2 + tapTerm x w n 3 + tapTerm x w n 4 + tapTerm x w n 5 + tapTerm x w n 6

/-- A row's logits, -/
def logit (n : Fin 2048) (j : Fin 2) : EReal := (∑ f : Fin 16, gated x w n f * Ideal.logistic (score x w n) * w.cw f j) + w.cb j

/-- less their maximum, -/
def shifted (n : Fin 2048) (j : Fin 2) : EReal :=
  logit x w n j - Finset.fold max (Ideal.ofBits .f32 0xFF800000#32) (fun i : Fin 2 => logit x w n i) Finset.univ

/-- and their log-softmax. -/
def logProb (n : Fin 2048) (j : Fin 2) : EReal := shifted x w n j - Ideal.log (∑ i : Fin 2, Ideal.exp (shifted x w n i))

end Cert.KernelIdeal.Layers
-- ==== Proof.TailKernel.lean ====
/- The kernel's tail body computes the tail mathematics. -/
module

public import proofs.«01_k».proof.Proof.TailMath
public import proofs.«01_k».proof.Proof.Body3

@[expose] public section

set_option maxRecDepth 16384

noncomputable section

namespace Cert.KernelIdeal.Layers

open Cert.KernelIdeal.Gen
open Idealize.ShloMosaic Idealize.ShloMosaic.Tactic

variable (x : RVec S2048x16) (a b : RVec S1x16) (s : RVec S2x7) (cw : RVec S16x2) (cb : RVec S1x2)

/-- The weights, as the kernel's arrays hold them. -/
def kernelWeights : TailWeights where
  w1 f := a (ix2 0 f)
  w2 f := b (ix2 0 f)
  tap i k := s (tapAt i k)
  cw f j := cw (ix2 f j)
  cb j := cb (ix2 0 j)

/-- The gated columns; -/
theorem kernel_gated (n : Fin 2048) (f : Fin 16) : k3_pay2 (F := Ideal) x a b (ix2 n f) = gated x (kernelWeights a b s cw cb) n f := by
  pointwise [k3_pay2]
  simp only [Finset.univ_unique, Finset.sum_singleton]
  rfl

/-- the padded row means, -/
theorem kernel_means (p : Fin 2054) :
    k3_pay4 (F := Ideal) x a b (ix2 p (0 : Fin 1)) = padded (rowMean x (kernelWeights a b s cw cb)) p.val := by
  pointwise [k3_pay4, k3_pay3]
  simp only [kernel_gated x a b s cw cb]
  rfl

/-- the padded row maxima, -/
theorem kernel_maxima (p : Fin 2054) :
    k3_pay5 (F := Ideal) x a b (ix2 p (0 : Fin 1)) = padded (rowMax x (kernelWeights a b s cw cb)) p.val := by
  pointwise [k3_pay5, k3_pay3]
  simp only [kernel_gated x a b s cw cb]
  rfl

/-- and the taps summed one by one. -/
theorem score_flat (w : TailWeights) (n : Fin 2048) : score x w n =
    w.tap 0 0 * padded (rowMean x w) n.val + w.tap 1 0 * padded (rowMax x w) n.val
      + w.tap 0 1 * padded (rowMean x w) (1 + n.val) + w.tap 1 1 * padded (rowMax x w) (1 + n.val)
      + w.tap 0 2 * padded (rowMean x w) (2 + n.val) + w.tap 1 2 * padded (rowMax x w) (2 + n.val)
      + w.tap 0 3 * padded (rowMean x w) (3 + n.val) + w.tap 1 3 * padded (rowMax x w) (3 + n.val)
      + w.tap 0 4 * padded (rowMean x w) (4 + n.val) + w.tap 1 4 * padded (rowMax x w) (4 + n.val)
      + w.tap 0 5 * padded (rowMean x w) (5 + n.val) + w.tap 1 5 * padded (rowMax x w) (5 + n.val)
      + w.tap 0 6 * padded (rowMean x w) (6 + n.val) + w.tap 1 6 * padded (rowMax x w) (6 + n.val) := by
  unfold score
  rw [tapTerm_zero]
  unfold tapTerm
  simp only [add_assoc]
  rfl

/-- The tail body's value. -/
theorem kernel_tail (n : Fin 2048) (j : Fin 2) :
    tailBlock (F := Ideal) x a b s cw cb (ix2 n j) = logProb x (kernelWeights a b s cw cb) n j := by
  pointwise [tailBlock, k3_pay1, k3_pay7, k3_pay8, k3_pay6]
  simp only [kernel_gated x a b s cw cb, kernel_means x a b s cw cb, kernel_maxima x a b s cw cb]
  unfold logProb shifted logit
  simp only [score_flat]
  rfl

end Cert.KernelIdeal.Layers
-- ==== Proof.TailReference.lean ====
/- The reference's tail is the tail mathematics of the columns its layers leave. -/
module

public import proofs.«01_k».proof.Proof.TailMath
public import Idealize.ShloMosaic.Lib.IdealHost

@[expose] public section

set_option maxRecDepth 16384

noncomputable section

namespace Cert.KernelIdeal.Layers

open Cert.KernelIdeal.Gen
open Idealize.ShloMosaic Idealize.ShloMosaic.Tactic
open Cert.ReferenceIdeal.Read

variable (a0 a1 : RVec S2048x128) (a2 a3 : RVec S3x2048x2048) (a4 : RVec S3x128x8) (a5 : RVec S1x8) (a6 : RVec S3x8x8)
  (a7 : RVec S1x8) (a8 : RVec S3x8x8) (a9 : RVec S1x8)
  (a10 : RVec S1x16x1) (a11 : RVec S16x1x1) (a12 : RVec S1x2x7) (a13 : RVec S2x16x1) (a14 : RVec S2)

/-- The weights, as the arguments hold them. -/
def argWeights : TailWeights where
  w1 f := a10 (ix3 0 f 0)
  w2 f := a11 (ix3 f 0 0)
  tap i k := a12 (ix3 0 i k)
  cw f j := a13 (ix3 j f 0)
  cb j := a14 (ix1 j)

/-- The columns the reference's layers leave. -/
abbrev refCols : RVec S2048x16 := val_main_v273 (F := Ideal) a0 a1 a2 a3 a4 a5 a6 a7 a8 a9

/-- A maximum that starts at `b` is at least `b`. -/
theorem max_fold_max {ι : Type} (b : EReal) (f : ι → EReal) (t : Finset ι) : max b (Finset.fold max b f t) = Finset.fold max b f t :=
  max_eq_right ((Finset.le_fold_max b).2 (.inl le_rfl))

/-- The integer zero as a real. -/
theorem zero_word : (FloatOps.sitofp (F := Ideal) .f32 (0#32 : BitVec 32) : EReal) = 0 := by
  show ((((0#32 : BitVec 32).toInt : ℤ) : ℝ) : EReal) = 0
  simp

/-- A padded column, tested on both sides at once. -/
theorem padded_two_sided (v : Fin 2048 → EReal) (p : ℕ) (z : EReal) (hz : z = 0) :
    (@dite (Elt Ideal .f32) (3 ≤ p ∧ p - 3 < 2048) instDecidableAnd (fun h => v ⟨p - 3, h.2⟩) fun _ => z) = padded v p := by
  unfold padded
  subst hz
  by_cases h : p < 3
  · rw [dif_neg (fun q => absurd q.1 (by omega)), if_pos h]
  · rw [if_neg h]
    by_cases q : p - 3 < 2048
    · rw [dif_pos ⟨by omega, q⟩, dif_pos q]
    · rw [dif_neg (fun t => q t.2), dif_neg q]

/-- The hidden unit of the channel gate. -/
theorem reference_hidden : val_main_v284 (F := Ideal) a0 a1 a2 a3 a4 a5 a6 a7 a8 a9 a10 (ix3 0 0 0)
    = hidden (refCols a0 a1 a2 a3 a4 a5 a6 a7 a8 a9) (argWeights a10 a11 a12 a13 a14) := by
  pointwise [val_main_v284, val_main_call1_v0, val_main_call1_cst, val_main_v283, val_main_v282, val_main_v281, val_main_v280,
    val_main_call0_v0, val_main_c, val_main_v279, val_main_v278, val_main_cst_3, val_main_v277, val_main_v276, val_main_cst_2,
    val_main_v275, val_main_v274]
  rfl

/-- The gated columns. -/
theorem reference_gated (n : Fin 2048) (f : Fin 16) :
    val_main_v296 (F := Ideal) a0 a1 a2 a3 a4 a5 a6 a7 a8 a9 a10 a11 (ix3 0 f n)
      = gated (refCols a0 a1 a2 a3 a4 a5 a6 a7 a8 a9) (argWeights a10 a11 a12 a13 a14) n f := by
  pointwise [val_main_v296, val_main_v295, val_main_v294, val_main_v293, val_main_cst_6, val_main_v292, val_main_v291, val_main_cst_5,
    val_main_v290, val_main_v289, val_main_v288, val_main_v287, val_main_v286, val_main_v285, val_main_call2_v0, val_main_c_4,
    val_main_v275, val_main_v274]
  simp only [Finset.univ_unique, Finset.sum_singleton]
  rw [reference_hidden (a11 := a11) (a12 := a12) (a13 := a13) (a14 := a14), mul_comm (hidden _ _)]
  rfl

/-- The padded row means, the first input of the row gate; -/
theorem reference_means (p : Fin 2054) :
    val_main_v304 (F := Ideal) a0 a1 a2 a3 a4 a5 a6 a7 a8 a9 a10 a11 (ix3 0 0 p)
      = padded (rowMean (refCols a0 a1 a2 a3 a4 a5 a6 a7 a8 a9) (argWeights a10 a11 a12 a13 a14)) p.val := by
  pointwise [val_main_v304, val_main_call3_v0, val_main_c_10, val_main_v303, val_main_v302, val_main_v301, val_main_cst_9, val_main_v300,
    val_main_v299, val_main_cst_8, val_main_v298, val_main_v297, val_main_cst_7]
  simp only [reference_gated (a12 := a12) (a13 := a13) (a14 := a14)]
  exact padded_two_sided (rowMean (refCols a0 a1 a2 a3 a4 a5 a6 a7 a8 a9) (argWeights a10 a11 a12 a13 a14)) p.val _ zero_word

/-- the padded row maxima, its second. -/
theorem reference_maxima (p : Fin 2054) :
    val_main_v304 (F := Ideal) a0 a1 a2 a3 a4 a5 a6 a7 a8 a9 a10 a11 (ix3 0 1 p)
      = padded (rowMax (refCols a0 a1 a2 a3 a4 a5 a6 a7 a8 a9) (argWeights a10 a11 a12 a13 a14)) p.val := by
  pointwise [val_main_v304, val_main_call3_v0, val_main_c_10, val_main_v303, val_main_v302, val_main_v301, val_main_cst_9, val_main_v300,
    val_main_v299, val_main_cst_8, val_main_v298, val_main_v297, val_main_cst_7]
  simp only [reference_gated (a12 := a12) (a13 := a13) (a14 := a14)]
  exact padded_two_sided (rowMax (refCols a0 a1 a2 a3 a4 a5 a6 a7 a8 a9) (argWeights a10 a11 a12 a13 a14)) p.val _ zero_word

/-- The seven taps of the row gate. -/
theorem reference_score (n : Fin 2048) :
    val_main_v345 (F := Ideal) a0 a1 a2 a3 a4 a5 a6 a7 a8 a9 a10 a11 a12 (ix3 0 0 n)
      = score (refCols a0 a1 a2 a3 a4 a5 a6 a7 a8 a9) (argWeights a10 a11 a12 a13 a14) n := by
  pointwise [val_main_v345, val_main_v344, val_main_v343, val_main_v342, val_main_v341, val_main_v340, val_main_v339, val_main_v338,
    val_main_v337, val_main_v336, val_main_v335, val_main_v334, val_main_v333, val_main_v332, val_main_v331, val_main_v330, val_main_v329,
    val_main_v328, val_main_v327, val_main_v326, val_main_v325, val_main_v324, val_main_v323, val_main_v322, val_main_v321, val_main_v320,
    val_main_v319, val_main_v318, val_main_v317, val_main_v316, val_main_v315, val_main_v314, val_main_v313, val_main_v312, val_main_v311,
    val_main_v310, val_main_v309, val_main_v308, val_main_v307, val_main_v306, val_main_v305]
  simp only [Fin.sum_univ_two, reference_means (a12 := a12) (a13 := a13) (a14 := a14), reference_maxima (a12 := a12) (a13 := a13) (a14 := a14),
    mul_comm (padded _ _)]
  unfold score
  rw [tapTerm_zero]
  rfl

/-- The logits. -/
theorem reference_logit (n : Fin 2048) (j : Fin 2) :
    val_main_v360 (F := Ideal) a0 a1 a2 a3 a4 a5 a6 a7 a8 a9 a10 a11 a12 a13 a14 (ix3 0 j n)
      = logit (refCols a0 a1 a2 a3 a4 a5 a6 a7 a8 a9) (argWeights a10 a11 a12 a13 a14) n j := by
  pointwise [val_main_v360, val_main_v359, val_main_v358, val_main_v357, val_main_v356, val_main_v355, val_main_v354, val_main_call4_v0,
    val_main_c_13, val_main_v353, val_main_v352, val_main_v351, val_main_v350, val_main_cst_12, val_main_v349, val_main_v348, val_main_cst_11,
    val_main_v347, val_main_v346]
  simp only [reference_gated (a12 := a12) (a13 := a13) (a14 := a14), reference_score (a13 := a13) (a14 := a14)]
  rfl

/-- The reference's result, of the columns its layers leave. -/
theorem reference_tail (n : Fin 2048) (j : Fin 2) :
    val_main_v361 (F := Ideal) a0 a1 a2 a3 a4 a5 a6 a7 a8 a9 a10 a11 a12 a13 a14 (ix3 0 j n)
      = logProb (refCols a0 a1 a2 a3 a4 a5 a6 a7 a8 a9) (argWeights a10 a11 a12 a13 a14) n j := by
  pointwise [val_main_v361, val_main_call5_v10, val_main_call5_v9, val_main_call5_v8, val_main_call5_v7, val_main_call5_cst_1,
    val_main_call5_v6, val_main_call5_v5, val_main_call5_v4, val_main_call5_v3, val_main_call5_v2, val_main_call5_v1, val_main_call5_cst_0,
    val_main_call5_v0, val_main_call5_cst]
  simp only [reference_logit, max_fold_max]
  rfl

end Cert.KernelIdeal.Layers
-- ==== Proof.Result.lean ====
/- The kernel's result array at the end of its run is the reference's value of the same arguments. -/
module

public import proofs.«01_k».proof.Proof.WholeRun
public import proofs.«01_k».proof.Proof.RegionValue0
public import proofs.«01_k».proof.Proof.RegionValue1
public import proofs.«01_k».proof.Proof.RegionValue2
public import proofs.«01_k».proof.Proof.RegionValue3
public import proofs.«01_k».proof.Proof.LayerReference
public import proofs.«01_k».proof.Proof.TailKernel
public import proofs.«01_k».proof.Proof.TailReference
public import Idealize.ShloMosaic.Lib.StableHlo.ReadAt

@[expose] public section

set_option maxRecDepth 16384

noncomputable section

namespace Cert.KernelIdeal.Layers

open Cert.KernelIdeal.Gen
open Idealize.ShloMosaic Idealize.ShloMosaic.TcCoe Idealize.ShloMosaic.Tactic
open Idealize.SL Idealize.SL.Sem

variable (m : (ℓ : Loc nD τ sig) → Buf (Elt Ideal) ℓ) (c : Dev nD)

/-- What a reference holds at launch. -/
abbrev start (r : Ref sig .tc) : Buf (Elt Ideal) ((c : Thread nD τ).loc r) := m ((c : Thread nD τ).loc r)

/-! ## The stacks, rounded before the first call -/

theorem W1_v0 : (W1 m c (Proc.devRef .tc main_v0) : RVec S3x2048x2048) = start m c main_arg2 := by
  unfold W1; after_reads_simp; rfl
theorem W1_v1 : (W1 m c (Proc.devRef .tc main_v1) : RVec S3x2048x2048) = start m c main_arg3 := by
  unfold W1; after_reads_simp; rfl

/-- The stacks are written only there. -/
theorem stacks_kept : ∀ a ∈ [main_v0, main_v1], (a ∉ hostOps1_W ∧ a ∉ hostOps2_W)
    ∧ (∀ w : Fin cfg0.W, Pipeline.arrRef spec0 w = a → (cfg0.win w).isOut = false) ∧ (∀ w : Fin cfg1.W, Pipeline.arrRef spec1 w = a → (cfg1.win w).isOut = false) :=
  ListAll.forall_mem_of_all_decide (by decide +kernel)
theorem W3_stack (a : Ref sig .tc) (ha : a ∈ [main_v0, main_v1]) : W3 m c (Proc.devRef .tc a) = W1 m c (Proc.devRef .tc a) :=
  (W3_of m c a (stacks_kept a ha).1.1).trans (W2_of m c a (stacks_kept a ha).2.1)
theorem W5_stack (a : Ref sig .tc) (ha : a ∈ [main_v0, main_v1]) : W5 m c (Proc.devRef .tc a) = W1 m c (Proc.devRef .tc a) :=
  (W5_of m c a (stacks_kept a ha).1.2).trans ((W4_of m c a (stacks_kept a ha).2.2).trans (W3_stack m c a ha))

/-! ## A pair cut from its array -/

theorem left_half (r i : RVec S2048x8) : extractStridedSlice S2048x8 ![0, 0] (sideBySide r i) slices_S2048x16_S2048x8_0_0 = r := by
  funext j
  obtain ⟨a, b, rfl⟩ : ∃ a b, j = ix2 a b := ⟨j 0, j 1, funext fun x => by fin_cases x <;> rfl⟩
  pointwise [sideBySide]
theorem right_half (r i : RVec S2048x8) : extractStridedSlice S2048x8 ![0, 8] (sideBySide r i) slices_S2048x16_S2048x8_0_8 = i := by
  funext j
  obtain ⟨a, b, rfl⟩ : ∃ a b, j = ix2 a b := ⟨j 0, j 1, funext fun x => by fin_cases x <;> rfl⟩
  pointwise [sideBySide]

/-! ## The layers -/

/-- The first pair. -/
abbrev real1 : RVec S2048x8 := firstReal (start m c main_arg0) (start m c main_arg1) (start m c main_arg2) (start m c main_arg3) (start m c main_arg4) (start m c main_arg5)
abbrev imag1 : RVec S2048x8 := firstImag (start m c main_arg0) (start m c main_arg1) (start m c main_arg2) (start m c main_arg3) (start m c main_arg4) (start m c main_arg5)
/-- The second. -/
abbrev real2 : RVec S2048x8 := nextReal (real1 m c) (imag1 m c) (start m c main_arg2) (start m c main_arg3) (start m c main_arg6) (start m c main_arg7)
abbrev imag2 : RVec S2048x8 := nextImag (real1 m c) (imag1 m c) (start m c main_arg2) (start m c main_arg3) (start m c main_arg6) (start m c main_arg7)

theorem W2_v2 : (W2 m c (Proc.devRef .tc main_v2) : RVec S2048x16) = sideBySide (real1 m c) (imag1 m c) := by
  refine (W2_out m c).trans ((region0_result (atRefs (W1 m)) c).trans ?_)
  show sideBySide (firstReal (W1 m c (Proc.devRef .tc main_arg0)) (W1 m c (Proc.devRef .tc main_arg1)) (W1 m c (Proc.devRef .tc main_v0)) (W1 m c (Proc.devRef .tc main_v1)) (W1 m c (Proc.devRef .tc main_arg4)) (W1 m c (Proc.devRef .tc main_arg5)))
    (firstImag (W1 m c (Proc.devRef .tc main_arg0)) (W1 m c (Proc.devRef .tc main_arg1)) (W1 m c (Proc.devRef .tc main_v0)) (W1 m c (Proc.devRef .tc main_v1)) (W1 m c (Proc.devRef .tc main_arg4)) (W1 m c (Proc.devRef .tc main_arg5))) = _
  rw [W1_arg m c main_arg0 (by decide), W1_arg m c main_arg1 (by decide), W1_arg m c main_arg4 (by decide), W1_arg m c main_arg5 (by decide), W1_v0, W1_v1]

theorem W3_v3 : (W3 m c (Proc.devRef .tc main_v3) : RVec S2048x8) = real1 m c := by
  refine Eq.trans (b := extractStridedSlice S2048x8 ![0, 0] (W2 m c (Proc.devRef .tc main_v2) : RVec S2048x16) slices_S2048x16_S2048x8_0_0) ?_ ?_
  · unfold W3; after_reads_simp
  · rw [W2_v2, left_half]

theorem W3_v4 : (W3 m c (Proc.devRef .tc main_v4) : RVec S2048x8) = imag1 m c := by
  refine Eq.trans (b := extractStridedSlice S2048x8 ![0, 8] (W2 m c (Proc.devRef .tc main_v2) : RVec S2048x16) slices_S2048x16_S2048x8_0_8) ?_ ?_
  · unfold W3; after_reads_simp
  · rw [W2_v2, right_half]

theorem W4_v5 : (W4 m c (Proc.devRef .tc main_v5) : RVec S2048x16) = sideBySide (real2 m c) (imag2 m c) := by
  refine (W4_out m c).trans ((region1_result (atRefs (W3 m)) c).trans ?_)
  show sideBySide (nextReal (W3 m c (Proc.devRef .tc main_v3)) (W3 m c (Proc.devRef .tc main_v4)) (W3 m c (Proc.devRef .tc main_v0)) (W3 m c (Proc.devRef .tc main_v1)) (W3 m c (Proc.devRef .tc main_arg6)) (W3 m c (Proc.devRef .tc main_arg7)))
    (nextImag (W3 m c (Proc.devRef .tc main_v3)) (W3 m c (Proc.devRef .tc main_v4)) (W3 m c (Proc.devRef .tc main_v0)) (W3 m c (Proc.devRef .tc main_v1)) (W3 m c (Proc.devRef .tc main_arg6)) (W3 m c (Proc.devRef .tc main_arg7))) = _
  rw [W3_arg m c main_arg6 (by decide), W3_arg m c main_arg7 (by decide), W3_stack m c main_v0 (by decide), W3_stack m c main_v1 (by decide), W1_v0, W1_v1,
    W3_v3, W3_v4]

theorem W5_v6 : (W5 m c (Proc.devRef .tc main_v6) : RVec S2048x8) = real2 m c := by
  refine Eq.trans (b := extractStridedSlice S2048x8 ![0, 0] (W4 m c (Proc.devRef .tc main_v5) : RVec S2048x16) slices_S2048x16_S2048x8_0_0) ?_ ?_
  · unfold W5; after_reads_simp
  · rw [W4_v5, left_half]

theorem W5_v7 : (W5 m c (Proc.devRef .tc main_v7) : RVec S2048x8) = imag2 m c := by
  refine Eq.trans (b := extractStridedSlice S2048x8 ![0, 8] (W4 m c (Proc.devRef .tc main_v5) : RVec S2048x16) slices_S2048x16_S2048x8_0_8) ?_ ?_
  · unfold W5; after_reads_simp
  · rw [W4_v5, right_half]

/-- The columns call 2 leaves are the reference's three layers. -/
theorem W6_v8 : (W6 m c (Proc.devRef .tc main_v8) : RVec S2048x16)
    = layers (start m c main_arg0) (start m c main_arg1) (start m c main_arg2) (start m c main_arg3) (start m c main_arg4) (start m c main_arg5)
        (start m c main_arg6) (start m c main_arg7) (start m c main_arg8) (start m c main_arg9) := by
  refine (W6_out m c).trans ((region2_result (atRefs (W5 m)) c).trans ?_)
  show sideBySide (nextReal (W5 m c (Proc.devRef .tc main_v6)) (W5 m c (Proc.devRef .tc main_v7)) (W5 m c (Proc.devRef .tc main_v0)) (W5 m c (Proc.devRef .tc main_v1)) (W5 m c (Proc.devRef .tc main_arg8)) (W5 m c (Proc.devRef .tc main_arg9)))
    (nextImag (W5 m c (Proc.devRef .tc main_v6)) (W5 m c (Proc.devRef .tc main_v7)) (W5 m c (Proc.devRef .tc main_v0)) (W5 m c (Proc.devRef .tc main_v1)) (W5 m c (Proc.devRef .tc main_arg8)) (W5 m c (Proc.devRef .tc main_arg9))) = _
  rw [W5_arg m c main_arg8 (by decide), W5_arg m c main_arg9 (by decide), W5_stack m c main_v0 (by decide), W5_stack m c main_v1 (by decide), W1_v0, W1_v1,
    W5_v6, W5_v7]
  rfl

/-! ## The tail -/

/-- The weights as call 3 finds them are the arguments' weights. -/
theorem weights_agree (a10 : RVec S1x16x1) (a11 : RVec S16x1x1) (a12 : RVec S1x2x7) (a13 : RVec S2x16x1) (a14 : RVec S2) :
    kernelWeights (shapeCast S1x16 a10 shapeCasts_S1x16x1_S1x16)
      (broadcastInDim S1x16 ![1] bcast_S16_S1x16_1 (shapeCast S16 a11 shapeCasts_S16x1x1_S16))
      (shapeCast S2x7 a12 shapeCasts_S1x2x7_S2x7)
      (transpose S16x2 [1, 0] (shapeCast S2x16 a13 shapeCasts_S2x16x1_S2x16) transposes_S2x16_S16x2_1_0)
      (broadcastInDim S1x2 ![1] bcast_S2_S1x2_1 a14)
    = argWeights a10 a11 a12 a13 a14 := by
  unfold kernelWeights argWeights
  congr 1
  · funext f; pointwise
  · funext f; pointwise
  · funext i k
    rw [show tapAt i k = ix2 i k from funext fun a => by fin_cases a <;> rfl]
    pointwise
  · funext f j; pointwise
  · funext j; pointwise

/-- What call 3 leaves, from the columns it is given. -/
theorem W8_v16 (n : Fin 2048) (j : Fin 2) : (W8 m c (Proc.devRef .tc main_v16) : RVec S2048x2) (ix2 n j)
    = logProb (W6 m c (Proc.devRef .tc main_v8))
        (argWeights (start m c main_arg10) (start m c main_arg11) (start m c main_arg12) (start m c main_arg13) (start m c main_arg14)) n j := by
  have h8 : W7 m c (Proc.devRef .tc main_v8) = W6 m c (Proc.devRef .tc main_v8) := W7_of m c main_v8 (by decide)
  have h9 : (W7 m c (Proc.devRef .tc main_v9) : RVec S1x16) = shapeCast S1x16 (W6 m c (Proc.devRef .tc main_arg10) : RVec S1x16x1) shapeCasts_S1x16x1_S1x16 := by
    unfold W7; after_reads_simp; rfl
  have h11 : (W7 m c (Proc.devRef .tc main_v11) : RVec S1x16)
      = broadcastInDim S1x16 ![1] bcast_S16_S1x16_1 (shapeCast S16 (W6 m c (Proc.devRef .tc main_arg11) : RVec S16x1x1) shapeCasts_S16x1x1_S16) := by
    unfold W7; after_reads_simp; rfl
  have h12 : (W7 m c (Proc.devRef .tc main_v12) : RVec S2x7) = shapeCast S2x7 (W6 m c (Proc.devRef .tc main_arg12) : RVec S1x2x7) shapeCasts_S1x2x7_S2x7 := by
    unfold W7; after_reads_simp; rfl
  have h14 : (W7 m c (Proc.devRef .tc main_v14) : RVec S16x2)
      = transpose S16x2 [1, 0] (shapeCast S2x16 (W6 m c (Proc.devRef .tc main_arg13) : RVec S2x16x1) shapeCasts_S2x16x1_S2x16) transposes_S2x16_S16x2_1_0 := by
    unfold W7; after_reads_simp; rfl
  have h15 : (W7 m c (Proc.devRef .tc main_v15) : RVec S1x2) = broadcastInDim S1x2 ![1] bcast_S2_S1x2_1 (W6 m c (Proc.devRef .tc main_arg14) : RVec S2) := by
    unfold W7; after_reads_simp
  rw [show (W8 m c (Proc.devRef .tc main_v16) : RVec S2048x2) = tailBlock (F := Ideal) (W7 m c (Proc.devRef .tc main_v8)) (W7 m c (Proc.devRef .tc main_v9))
      (W7 m c (Proc.devRef .tc main_v11)) (W7 m c (Proc.devRef .tc main_v12)) (W7 m c (Proc.devRef .tc main_v14)) (W7 m c (Proc.devRef .tc main_v15))
      from (W8_out m c).trans (region3_result (atRefs (W7 m)) c)]
  rw [h8, h9, h11, h12, h14, h15, W6_arg m c main_arg10 (by decide), W6_arg m c main_arg11 (by decide), W6_arg m c main_arg12 (by decide),
    W6_arg m c main_arg13 (by decide), W6_arg m c main_arg14 (by decide)]
  rw [kernel_tail, weights_agree]

/-! ## The result -/

/-- The kernel's result array ends at the reference's value of the kernel's arguments. -/
theorem result_eq : (W9 m c (Proc.devRef .tc main_v18) : RVec S1x2x2048)
    = Cert.ReferenceIdeal.Read.val_main_v361 (F := Ideal) (start m c main_arg0) (start m c main_arg1) (start m c main_arg2) (start m c main_arg3)
        (start m c main_arg4) (start m c main_arg5) (start m c main_arg6) (start m c main_arg7) (start m c main_arg8) (start m c main_arg9)
        (start m c main_arg10) (start m c main_arg11) (start m c main_arg12) (start m c main_arg13) (start m c main_arg14) := by
  have h : (W9 m c (Proc.devRef .tc main_v18) : RVec S1x2x2048) = broadcastInDim S1x2x2048 ![1, 2] bcast_S2x2048_S1x2x2048_1_2
      (transpose S2x2048 [1, 0] (W8 m c (Proc.devRef .tc main_v16) : RVec S2048x2) transposes_S2048x2_S2x2048_1_0) := by
    unfold W9; after_reads_simp
  rw [h]
  funext i
  obtain ⟨j, n, rfl⟩ : ∃ (j : Fin 2) (n : Fin 2048), i = ix3 (0 : Fin 1) j n :=
    ⟨i 1, i 2, funext fun x => by fin_cases x; exacts [Subsingleton.elim (α := Fin 1) _ _, rfl, rfl]⟩
  rw [reference_tail]
  pointwise
  rw [W8_v16, W6_v8, ← reference_layers]

end Cert.KernelIdeal.Layers

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.WholeRun
public import proofs.«01_k».proof.Proof.KernelFrame
public import proofs.«01_k».proof.Proof.Result
public import Idealize.ShloMosaic.Lib.Quiescent
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- Every run of the reference ends, with its arguments as they were and every counter at zero. -/
theorem reference_frame : @Cert.quiescent_ReferenceIdeal Cert.ReferenceIdeal.Gen.facts := fun m g _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m g)

/-- The kernel and the reference, from memories that agree on the arguments, end with the same result and their
    arguments as they were. -/
theorem same_value : @Cert.algebraic_KernelIdeal_ReferenceIdeal Cert.KernelIdeal.Gen.facts Cert.ReferenceIdeal.Gen.facts := by
  intro m g m' g' _ hm
  refine ⟨fun c => Cert.KernelIdeal.Layers.W9 m c (Proc.devRef .tc Cert.KernelIdeal.main_v18), ?_, ?_⟩
  · refine (θ_run Cert.KernelIdeal.defs _ _).mono (fun r h c => ?_) (Cert.KernelIdeal.Layers.whole_run m g)
    refine ⟨h.1 c _ (Cert.KernelIdeal.Layers.mem_held Cert.KernelIdeal.main_v18 (by decide)), ?_⟩
    refine ⟨?_, ?_, ?_, ?_, ?_, ?_, ?_, ?_, ?_, ?_, ?_, ?_, ?_, ?_, ?_⟩ <;> exact Cert.KernelIdeal.Layers.end_arg m c (h.1 c) _ (by decide)
  · refine (θ_run Cert.ReferenceIdeal.defs _ _).mono (fun r h c => ⟨?_, (h c).2⟩) (Cert.ReferenceIdeal.Value.run (F := Ideal) m' g')
    refine (h c).1.trans ((Cert.ReferenceIdeal.Read.val_main_v361_eq (StableHlo.launchContents m' c)).trans ?_)
    refine Eq.trans ?_ (Cert.KernelIdeal.Layers.result_eq m c).symm
    obtain ⟨h0, h1, h2, h3, h4, h5, h6, h7, h8, h9, h10, h11, h12, h13, h14⟩ := hm c
    repeat rw [StableHlo.launchContents_devRef]
    rw [h0, h1, h2, h3, h4, h5, h6, h7, h8, h9, h10, h11, h12, h13, h14]

/-- The certificate. -/
theorem claim : Cert.Claim := ⟨Cert.Kernel.Gen.facts, Cert.KernelIdeal.Gen.facts, Cert.ReferenceIdeal.Gen.facts,
  Cert.Kernel.Layers.frame, fun m g _ => Cert.KernelIdeal.Layers.frame m g, reference_frame, trivial, same_value⟩

end Cert.Proof

end
